-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S128x32768 : Shape := ⟨2, ![128, 32768]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S128x32768 .f32) (main_arg1 : IVec S128 32) : IVec S_ 1 :=
  let main_c : IVec S_ 32 := constantI S_ 32 0#32
  let main_v0 : IVec S128 32 := broadcastInDim S128 ![] bcast_S_S128 main_c
  let main_v1 : IVec S128 1 := cmpi .sge main_arg1 main_v0
  let main_c_0 : IVec S_ 32 := constantI S_ 32 32768#32
  let main_v2 : IVec S128 32 := broadcastInDim S128 ![] bcast_S_S128 main_c_0
  let main_v3 : IVec S128 1 := cmpi .slt main_arg1 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  main_v5
-- ==== Kernel.lean ====
abbrev S128x32768 : Shape := ⟨2, ![128, 32768]⟩
abbrev S128 : Shape := ⟨1, ![128]⟩
abbrev S32x128 : Shape := ⟨2, ![32, 128]⟩
abbrev S32896 : Shape := ⟨1, ![32896]⟩
abbrev S144 : Shape := ⟨1, ![144]⟩
abbrev S_ : Shape := ⟨0, ![]⟩
abbrev S32768 : Shape := ⟨1, ![32768]⟩
abbrev S1x32768 : Shape := ⟨2, ![1, 32768]⟩
abbrev S16 : Shape := ⟨1, ![16]⟩
abbrev S1 : Shape := ⟨1, ![1]⟩
abbrev S1x128 : Shape := ⟨2, ![1, 128]⟩
abbrev S1x1 : Shape := ⟨2, ![1, 1]⟩
abbrev S1x32x128 : Shape := ⟨3, ![1, 32, 128]⟩
abbrev S1x1x1 : Shape := ⟨3, ![1, 1, 1]⟩

abbrev nBuf : Table → Nat
  | .hbm => 5
  | .local .tc .vmem => 1
  | .local .tc .smem => 1
  | .local .scVector .vmem => 4
  | _ => 0

abbrev bufTy : (tb : Table) → Fin (nBuf tb) → BufTy
  | .hbm, ⟨0, _⟩ => ⟨S128x32768, .f32⟩
  | .hbm, ⟨1, _⟩ => ⟨S128, .i32⟩
  | .hbm, ⟨2, _⟩ => ⟨S32x128, .f32⟩
  | .hbm, ⟨3, _⟩ => ⟨S1x1, .f32⟩
  | .hbm, ⟨4, _⟩ => ⟨S1, .f32⟩
  | .local .tc .vmem, ⟨0, _⟩ => ⟨S32x128, .f32⟩
  | .local .tc .smem, ⟨0, _⟩ => ⟨S1x1, .f32⟩
  | .local .scVector .vmem, ⟨0, _⟩ => ⟨S32896, .f32⟩
  | .local .scVector .vmem, ⟨1, _⟩ => ⟨S32896, .f32⟩
  | .local .scVector .vmem, ⟨2, _⟩ => ⟨S144, .i32⟩
  | .local .scVector .vmem, ⟨3, _⟩ => ⟨S128, .f32⟩
  | _, _ => ⟨S128x32768, .f32⟩

abbrev bufScoped : (cs : CoreSpace) → Fin (nBuf (.local .tc cs)) → Bool
  | .vmem, ⟨0, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v12 : BitVec 32 := Scalar.muli v1 c4_i32_4
  let c0_i32_5 : BitVec 32 := 0#32
  let v13 : BitVec 32 := Scalar.addi v12 c0_i32_5
  let c1_i32_6 : BitVec 32 := 1#32
  let v14 : BitVec 32 := Scalar.addi v13 c1_i32_6
  let c0_i32_8 : BitVec 32 := 0#32
  ![v14.toNat, 0]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v12 : BitVec 32 := Scalar.muli v1 c4_i32_4
  let c0_i32_5 : BitVec 32 := 0#32
  let v13 : BitVec 32 := Scalar.addi v12 c0_i32_5
  let v27 : Index := Scalar.indexCast v13
  ![v27.toNat]
def k0_off4 (v31 : BitVec 32) : Fin 1 → Nat :=
  let v35 : Index := Scalar.indexCast v31
  ![v35.toNat]

def k0_chk1 (v31 : BitVec 32) : Prop :=
  (∀ a, (k0_off4 v31) a + S16.size a ≤ S32896.size a)
theorem k0_off4_inb : ∀ (v31 : BitVec 32) (k0_hw1 : k0_chk1 v31), ∀ a, (k0_off4 v31) a + S16.size a ≤ S32896.size a := fun v31 k0_hw1 => k0_hw1

@[reducible] def k0_t1_loop : Scf.Loop 32 :=
  let c0_i32_15 : BitVec 32 := 0#32
  let c256_i32 : BitVec 32 := 256#32
  let v42 : BitVec 32 := Scalar.addi c0_i32_15 c256_i32
  let c1_i32_16 : BitVec 32 := 1#32
  ⟨c0_i32_15, v42, c1_i32_16⟩
def k0_off5 (k0_t1 : Fin k0_t1_loop.trips) (c0_i32_139 : BitVec 32) : Fin 1 → Nat :=
  let c0_i32_15 : BitVec 32 := 0#32
  let c1_i32_16 : BitVec 32 := 1#32
  let arg11 : BitVec 32 := Scf.iv c0_i32_15 c1_i32_16 k0_t1
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]
@[reducible] def k0_t2_loop (v31 : BitVec 32) (v46 : BitVec 32) : Scf.Loop 32 :=
  let c0_i32_27 : BitVec 32 := 0#32
  let c5_i32 : BitVec 32 := 5#32
  let v47 : BitVec 1 := Scalar.cmpi .slt v46 c5_i32
  let c128_i32 : BitVec 32 := 128#32
  let v48 : BitVec 32 := Scalar.addi v31 c128_i32
  let c1_i32_18 : BitVec 32 := 1#32
  let v49 : BitVec 32 := Scalar.subi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c0_i32_26 : BitVec 32 := 0#32
  let v67 : BitVec 32 := Scalar.select v47 v66 c0_i32_26
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let c1_i32_29 : BitVec 32 := 1#32
  ⟨c0_i32_27, v72, c1_i32_29⟩

def k0_off6 (v31 : BitVec 32) (v46 : BitVec 32) (k0_t2 : Fin (k0_t2_loop v31 v46).trips) (c0_i32_139 : BitVec 32) : Fin 1 → Nat :=
  let c0_i32_27 : BitVec 32 := 0#32
  let c1_i32_29 : BitVec 32 := 1#32
  let arg11 : BitVec 32 := Scf.iv c0_i32_27 c1_i32_29 k0_t2
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]
@[reducible] def k0_t3_loop (v31 : BitVec 32) (v46 : BitVec 32) : Scf.Loop 32 :=
  let c0_i32_27 : BitVec 32 := 0#32
  let c5_i32 : BitVec 32 := 5#32
  let v47 : BitVec 1 := Scalar.cmpi .slt v46 c5_i32
  let c128_i32 : BitVec 32 := 128#32
  let v48 : BitVec 32 := Scalar.addi v31 c128_i32
  let c1_i32_18 : BitVec 32 := 1#32
  let v49 : BitVec 32 := Scalar.subi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c0_i32_26 : BitVec 32 := 0#32
  let v67 : BitVec 32 := Scalar.select v47 v66 c0_i32_26
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let v69 : BitVec 32 := Scalar.addi c0_i32_27 v68
  let c1_i32_30 : BitVec 32 := 1#32
  ⟨v72, v69, c1_i32_30⟩
def k0_off7 (v31 : BitVec 32) (v46 : BitVec 32) (k0_t3 : Fin (k0_t3_loop v31 v46).trips) (c0_i32_139 : BitVec 32) : Fin 1 → Nat :=
  let c0_i32_27 : BitVec 32 := 0#32
  let c5_i32 : BitVec 32 := 5#32
  let v47 : BitVec 1 := Scalar.cmpi .slt v46 c5_i32
  let c128_i32 : BitVec 32 := 128#32
  let v48 : BitVec 32 := Scalar.addi v31 c128_i32
  let c1_i32_18 : BitVec 32 := 1#32
  let v49 : BitVec 32 := Scalar.subi v48 c1_i32_18
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c128_i32_19 : BitVec 32 := 128#32
  let c0_i32_22 : BitVec 32 := 0#32
  let v56 : BitVec 1 := Scalar.cmpi .sgt c128_i32_19 c0_i32_22
  let v57 : BitVec 32 := Scalar.extui v56
  let c0_i32_23 : BitVec 32 := 0#32
  let v58 : BitVec 1 := Scalar.cmpi .slt c128_i32_19 c0_i32_23
  let v59 : BitVec 32 := Scalar.extui v58
  let v60 : BitVec 32 := Scalar.subi v57 v59
  let v61 : BitVec 1 := Scalar.cmpi .ne v55 v60
  let v62 : BitVec 32 := Scalar.remsi v49 c128_i32_19
  let c0_i32_24 : BitVec 32 := 0#32
  let v63 : BitVec 1 := Scalar.cmpi .ne v62 c0_i32_24
  let v64 : BitVec 1 := Scalar.andi v61 v63
  let v50 : BitVec 32 := Scalar.divsi v49 c128_i32_19
  let c1_i32_25 : BitVec 32 := 1#32
  let v65 : BitVec 32 := Scalar.subi v50 c1_i32_25
  let v66 : BitVec 32 := Scalar.select v64 v65 v50
  let c0_i32_26 : BitVec 32 := 0#32
  let v67 : BitVec 32 := Scalar.select v47 v66 c0_i32_26
  let v68 : BitVec 32 := Scalar.subi v67 c0_i32_27
  let c1_i32_28 : BitVec 32 := 1#32
  let v70 : BitVec 32 := Scalar.divsi v68 c1_i32_28
  let v71 : BitVec 32 := Scalar.muli v70 c1_i32_28
  let v72 : BitVec 32 := Scalar.addi c0_i32_27 v71
  let c1_i32_30 : BitVec 32 := 1#32
  let arg11 : BitVec 32 := Scf.iv v72 c1_i32_30 k0_t3
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]

def k0_chk2 (v31 : BitVec 32) (v46 : BitVec 32) : Prop :=
  ((k0_t2_loop v31 v46).OK) ∧
  (∀ k0_t2 : Fin (k0_t2_loop v31 v46).trips, ∀ (r : Fin 8), ∀ a, (k0_off6 v31 v46 k0_t2 (BitVec.ofNat 32 r.val)) a + S16.size a ≤ S32896.size a) ∧
  ((k0_t3_loop v31 v46).OK) ∧
  (∀ k0_t3 : Fin (k0_t3_loop v31 v46).trips, ∀ (r : Fin 8), ∀ a, (k0_off7 v31 v46 k0_t3 (BitVec.ofNat 32 r.val)) a + S16.size a ≤ S32896.size a)
theorem k0_t2_ok : ∀ (v31 : BitVec 32) (v46 : BitVec 32) (k0_hw2 : k0_chk2 v31 v46), (k0_t2_loop v31 v46).OK := fun v31 v46 k0_hw2 => k0_hw2.1
theorem k0_off6_inb : ∀ (v31 : BitVec 32) (v46 : BitVec 32) (k0_hw2 : k0_chk2 v31 v46) (k0_t2 : Fin (k0_t2_loop v31 v46).trips), ∀ (r : Fin 8), ∀ a, (k0_off6 v31 v46 k0_t2 (BitVec.ofNat 32 r.val)) a + S16.size a ≤ S32896.size a := fun v31 v46 k0_hw2 k0_t2 r => k0_hw2.2.1 k0_t2 r
theorem k0_t3_ok : ∀ (v31 : BitVec 32) (v46 : BitVec 32) (k0_hw2 : k0_chk2 v31 v46), (k0_t3_loop v31 v46).OK := fun v31 v46 k0_hw2 => k0_hw2.2.2.1
theorem k0_off7_inb : ∀ (v31 : BitVec 32) (v46 : BitVec 32) (k0_hw2 : k0_chk2 v31 v46) (k0_t3 : Fin (k0_t3_loop v31 v46).trips), ∀ (r : Fin 8), ∀ a, (k0_off7 v31 v46 k0_t3 (BitVec.ofNat 32 r.val)) a + S16.size a ≤ S32896.size a := fun v31 v46 k0_hw2 k0_t3 r => k0_hw2.2.2.2 k0_t3 r

def k0_off8 (i : grid0.Coords) (c1_i32_37 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_36 : BitVec 32 := 4#32
  let v82 : BitVec 32 := Scalar.muli v1 c4_i32_36
  let v83 : BitVec 32 := Scalar.addi v82 c1_i32_37
  let c1_i32_38 : BitVec 32 := 1#32
  let v84 : BitVec 32 := Scalar.addi v83 c1_i32_38
  let c0_i32_40 : BitVec 32 := 0#32
  ![v84.toNat, 0]
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_36 : BitVec 32 := 4#32
  let v82 : BitVec 32 := Scalar.muli v1 c4_i32_36
  let c1_i32_37 : BitVec 32 := 1#32
  let v83 : BitVec 32 := Scalar.addi v82 c1_i32_37
  let v97 : Index := Scalar.indexCast v83
  ![v97.toNat]
def k0_off10 (v101 : BitVec 32) : Fin 1 → Nat :=
  let v105 : Index := Scalar.indexCast v101
  ![v105.toNat]

def k0_chk3 (v101 : BitVec 32) : Prop :=
  (∀ a, (k0_off10 v101) a + S16.size a ≤ S32896.size a)
theorem k0_off10_inb : ∀ (v101 : BitVec 32) (k0_hw3 : k0_chk3 v101), ∀ a, (k0_off10 v101) a + S16.size a ≤ S32896.size a := fun v101 k0_hw3 => k0_hw3

@[reducible] def k0_t4_loop : Scf.Loop 32 :=
  let c0_i32_48 : BitVec 32 := 0#32
  let c256_i32_49 : BitVec 32 := 256#32
  let v112 : BitVec 32 := Scalar.addi c0_i32_48 c256_i32_49
  let c1_i32_50 : BitVec 32 := 1#32
  ⟨c0_i32_48, v112, c1_i32_50⟩
def k0_off11 (k0_t4 : Fin k0_t4_loop.trips) (c0_i32_139 : BitVec 32) : Fin 1 → Nat :=
  let c0_i32_48 : BitVec 32 := 0#32
  let c1_i32_50 : BitVec 32 := 1#32
  let arg11 : BitVec 32 := Scf.iv c0_i32_48 c1_i32_50 k0_t4
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]
@[reducible] def k0_t5_loop (v101 : BitVec 32) (v116 : BitVec 32) : Scf.Loop 32 :=
  let c0_i32_64 : BitVec 32 := 0#32
  let c5_i32_53 : BitVec 32 := 5#32
  let v117 : BitVec 1 := Scalar.cmpi .slt v116 c5_i32_53
  let c128_i32_54 : BitVec 32 := 128#32
  let v118 : BitVec 32 := Scalar.addi v101 c128_i32_54
  let c1_i32_55 : BitVec 32 := 1#32
  let v119 : BitVec 32 := Scalar.subi v118 c1_i32_55
  let c0_i32_57 : BitVec 32 := 0#32
  let v121 : BitVec 1 := Scalar.cmpi .sgt v119 c0_i32_57
  let v122 : BitVec 32 := Scalar.extui v121
  let c0_i32_58 : BitVec 32 := 0#32
  let v123 : BitVec 1 := Scalar.cmpi .slt v119 c0_i32_58
  let v124 : BitVec 32 := Scalar.extui v123
  let v125 : BitVec 32 := Scalar.subi v122 v124
  let c128_i32_56 : BitVec 32 := 128#32
  let c0_i32_59 : BitVec 32 := 0#32
  let v126 : BitVec 1 := Scalar.cmpi .sgt c128_i32_56 c0_i32_59
  let v127 : BitVec 32 := Scalar.extui v126
  let c0_i32_60 : BitVec 32 := 0#32
  let v128 : BitVec 1 := Scalar.cmpi .slt c128_i32_56 c0_i32_60
  let v129 : BitVec 32 := Scalar.extui v128
  let v130 : BitVec 32 := Scalar.subi v127 v129
  let v131 : BitVec 1 := Scalar.cmpi .ne v125 v130
  let v132 : BitVec 32 := Scalar.remsi v119 c128_i32_56
  let c0_i32_61 : BitVec 32 := 0#32
  let v133 : BitVec 1 := Scalar.cmpi .ne v132 c0_i32_61
  let v134 : BitVec 1 := Scalar.andi v131 v133
  let v120 : BitVec 32 := Scalar.divsi v119 c128_i32_56
  let c1_i32_62 : BitVec 32 := 1#32
  let v135 : BitVec 32 := Scalar.subi v120 c1_i32_62
  let v136 : BitVec 32 := Scalar.select v134 v135 v120
  let c0_i32_63 : BitVec 32 := 0#32
  let v137 : BitVec 32 := Scalar.select v117 v136 c0_i32_63
  let v138 : BitVec 32 := Scalar.subi v137 c0_i32_64
  let c1_i32_65 : BitVec 32 := 1#32
  let v140 : BitVec 32 := Scalar.divsi v138 c1_i32_65
  let v141 : BitVec 32 := Scalar.muli v140 c1_i32_65
  let v142 : BitVec 32 := Scalar.addi c0_i32_64 v141
  let c1_i32_66 : BitVec 32 := 1#32
  ⟨c0_i32_64, v142, c1_i32_66⟩

def k0_off12 (v101 : BitVec 32) (v116 : BitVec 32) (k0_t5 : Fin (k0_t5_loop v101 v116).trips) (c0_i32_139 : BitVec 32) : Fin 1 → Nat :=
  let c0_i32_64 : BitVec 32 := 0#32
  let c1_i32_66 : BitVec 32 := 1#32
  let arg11 : BitVec 32 := Scf.iv c0_i32_64 c1_i32_66 k0_t5
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]
@[reducible] def k0_t6_loop (v101 : BitVec 32) (v116 : BitVec 32) : Scf.Loop 32 :=
  let c0_i32_64 : BitVec 32 := 0#32
  let c5_i32_53 : BitVec 32 := 5#32
  let v117 : BitVec 1 := Scalar.cmpi .slt v116 c5_i32_53
  let c128_i32_54 : BitVec 32 := 128#32
  let v118 : BitVec 32 := Scalar.addi v101 c128_i32_54
  let c1_i32_55 : BitVec 32 := 1#32
  let v119 : BitVec 32 := Scalar.subi v118 c1_i32_55
  let c0_i32_57 : BitVec 32 := 0#32
  let v121 : BitVec 1 := Scalar.cmpi .sgt v119 c0_i32_57
  let v122 : BitVec 32 := Scalar.extui v121
  let c0_i32_58 : BitVec 32 := 0#32
  let v123 : BitVec 1 := Scalar.cmpi .slt v119 c0_i32_58
  let v124 : BitVec 32 := Scalar.extui v123
  let v125 : BitVec 32 := Scalar.subi v122 v124
  let c128_i32_56 : BitVec 32 := 128#32
  let c0_i32_59 : BitVec 32 := 0#32
  let v126 : BitVec 1 := Scalar.cmpi .sgt c128_i32_56 c0_i32_59
  let v127 : BitVec 32 := Scalar.extui v126
  let c0_i32_60 : BitVec 32 := 0#32
  let v128 : BitVec 1 := Scalar.cmpi .slt c128_i32_56 c0_i32_60
  let v129 : BitVec 32 := Scalar.extui v128
  let v130 : BitVec 32 := Scalar.subi v127 v129
  let v131 : BitVec 1 := Scalar.cmpi .ne v125 v130
  let v132 : BitVec 32 := Scalar.remsi v119 c128_i32_56
  let c0_i32_61 : BitVec 32 := 0#32
  let v133 : BitVec 1 := Scalar.cmpi .ne v132 c0_i32_61
  let v134 : BitVec 1 := Scalar.andi v131 v133
  let v120 : BitVec 32 := Scalar.divsi v119 c128_i32_56
  let c1_i32_62 : BitVec 32 := 1#32
  let v135 : BitVec 32 := Scalar.subi v120 c1_i32_62
  let v136 : BitVec 32 := Scalar.select v134 v135 v120
  let c0_i32_63 : BitVec 32 := 0#32
  let v137 : BitVec 32 := Scalar.select v117 v136 c0_i32_63
  let v138 : BitVec 32 := Scalar.subi v137 c0_i32_64
  let c1_i32_65 : BitVec 32 := 1#32
  let v140 : BitVec 32 := Scalar.divsi v138 c1_i32_65
  let v141 : BitVec 32 := Scalar.muli v140 c1_i32_65
  let v142 : BitVec 32 := Scalar.addi c0_i32_64 v141
  let v139 : BitVec 32 := Scalar.addi c0_i32_64 v138
  let c1_i32_67 : BitVec 32 := 1#32
  ⟨v142, v139, c1_i32_67⟩
def k0_off13 (v101 : BitVec 32) (v116 : BitVec 32) (k0_t6 : Fin (k0_t6_loop v101 v116).trips) (c0_i32_139 : BitVec 32) : Fin 1 → Nat :=
  let c0_i32_64 : BitVec 32 := 0#32
  let c5_i32_53 : BitVec 32 := 5#32
  let v117 : BitVec 1 := Scalar.cmpi .slt v116 c5_i32_53
  let c128_i32_54 : BitVec 32 := 128#32
  let v118 : BitVec 32 := Scalar.addi v101 c128_i32_54
  let c1_i32_55 : BitVec 32 := 1#32
  let v119 : BitVec 32 := Scalar.subi v118 c1_i32_55
  let c0_i32_57 : BitVec 32 := 0#32
  let v121 : BitVec 1 := Scalar.cmpi .sgt v119 c0_i32_57
  let v122 : BitVec 32 := Scalar.extui v121
  let c0_i32_58 : BitVec 32 := 0#32
  let v123 : BitVec 1 := Scalar.cmpi .slt v119 c0_i32_58
  let v124 : BitVec 32 := Scalar.extui v123
  let v125 : BitVec 32 := Scalar.subi v122 v124
  let c128_i32_56 : BitVec 32 := 128#32
  let c0_i32_59 : BitVec 32 := 0#32
  let v126 : BitVec 1 := Scalar.cmpi .sgt c128_i32_56 c0_i32_59
  let v127 : BitVec 32 := Scalar.extui v126
  let c0_i32_60 : BitVec 32 := 0#32
  let v128 : BitVec 1 := Scalar.cmpi .slt c128_i32_56 c0_i32_60
  let v129 : BitVec 32 := Scalar.extui v128
  let v130 : BitVec 32 := Scalar.subi v127 v129
  let v131 : BitVec 1 := Scalar.cmpi .ne v125 v130
  let v132 : BitVec 32 := Scalar.remsi v119 c128_i32_56
  let c0_i32_61 : BitVec 32 := 0#32
  let v133 : BitVec 1 := Scalar.cmpi .ne v132 c0_i32_61
  let v134 : BitVec 1 := Scalar.andi v131 v133
  let v120 : BitVec 32 := Scalar.divsi v119 c128_i32_56
  let c1_i32_62 : BitVec 32 := 1#32
  let v135 : BitVec 32 := Scalar.subi v120 c1_i32_62
  let v136 : BitVec 32 := Scalar.select v134 v135 v120
  let c0_i32_63 : BitVec 32 := 0#32
  let v137 : BitVec 32 := Scalar.select v117 v136 c0_i32_63
  let v138 : BitVec 32 := Scalar.subi v137 c0_i32_64
  let c1_i32_65 : BitVec 32 := 1#32
  let v140 : BitVec 32 := Scalar.divsi v138 c1_i32_65
  let v141 : BitVec 32 := Scalar.muli v140 c1_i32_65
  let v142 : BitVec 32 := Scalar.addi c0_i32_64 v141
  let c1_i32_67 : BitVec 32 := 1#32
  let arg11 : BitVec 32 := Scf.iv v142 c1_i32_67 k0_t6
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]

def k0_chk4 (v101 : BitVec 32) (v116 : BitVec 32) : Prop :=
  ((k0_t5_loop v101 v116).OK) ∧
  (∀ k0_t5 : Fin (k0_t5_loop v101 v116).trips, ∀ (r : Fin 8), ∀ a, (k0_off12 v101 v116 k0_t5 (BitVec.ofNat 32 r.val)) a + S16.size a ≤ S32896.size a) ∧
  ((k0_t6_loop v101 v116).OK) ∧
  (∀ k0_t6 : Fin (k0_t6_loop v101 v116).trips, ∀ (r : Fin 8), ∀ a, (k0_off13 v101 v116 k0_t6 (BitVec.ofNat 32 r.val)) a + S16.size a ≤ S32896.size a)
theorem k0_t5_ok : ∀ (v101 : BitVec 32) (v116 : BitVec 32) (k0_hw4 : k0_chk4 v101 v116), (k0_t5_loop v101 v116).OK := fun v101 v116 k0_hw4 => k0_hw4.1
theorem k0_off12_inb : ∀ (v101 : BitVec 32) (v116 : BitVec 32) (k0_hw4 : k0_chk4 v101 v116) (k0_t5 : Fin (k0_t5_loop v101 v116).trips), ∀ (r : Fin 8), ∀ a, (k0_off12 v101 v116 k0_t5 (BitVec.ofNat 32 r.val)) a + S16.size a ≤ S32896.size a := fun v101 v116 k0_hw4 k0_t5 r => k0_hw4.2.1 k0_t5 r
theorem k0_t6_ok : ∀ (v101 : BitVec 32) (v116 : BitVec 32) (k0_hw4 : k0_chk4 v101 v116), (k0_t6_loop v101 v116).OK := fun v101 v116 k0_hw4 => k0_hw4.2.2.1
theorem k0_off13_inb : ∀ (v101 : BitVec 32) (v116 : BitVec 32) (k0_hw4 : k0_chk4 v101 v116) (k0_t6 : Fin (k0_t6_loop v101 v116).trips), ∀ (r : Fin 8), ∀ a, (k0_off13 v101 v116 k0_t6 (BitVec.ofNat 32 r.val)) a + S16.size a ≤ S32896.size a := fun v101 v116 k0_hw4 k0_t6 r => k0_hw4.2.2.2 k0_t6 r

def k0_off14 (i : grid0.Coords) (c2_i32_73 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_72 : BitVec 32 := 4#32
  let v152 : BitVec 32 := Scalar.muli v1 c4_i32_72
  let v153 : BitVec 32 := Scalar.addi v152 c2_i32_73
  let c1_i32_74 : BitVec 32 := 1#32
  let v154 : BitVec 32 := Scalar.addi v153 c1_i32_74
  let c0_i32_76 : BitVec 32 := 0#32
  ![v154.toNat, 0]
def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_72 : BitVec 32 := 4#32
  let v152 : BitVec 32 := Scalar.muli v1 c4_i32_72
  let c2_i32_73 : BitVec 32 := 2#32
  let v153 : BitVec 32 := Scalar.addi v152 c2_i32_73
  let v167 : Index := Scalar.indexCast v153
  ![v167.toNat]
def k0_off16 (v171 : BitVec 32) : Fin 1 → Nat :=
  let v175 : Index := Scalar.indexCast v171
  ![v175.toNat]

def k0_chk5 (v171 : BitVec 32) : Prop :=
  (∀ a, (k0_off16 v171) a + S16.size a ≤ S32896.size a)
theorem k0_off16_inb : ∀ (v171 : BitVec 32) (k0_hw5 : k0_chk5 v171), ∀ a, (k0_off16 v171) a + S16.size a ≤ S32896.size a := fun v171 k0_hw5 => k0_hw5

@[reducible] def k0_t7_loop : Scf.Loop 32 :=
  let c0_i32_84 : BitVec 32 := 0#32
  let c256_i32_85 : BitVec 32 := 256#32
  let v182 : BitVec 32 := Scalar.addi c0_i32_84 c256_i32_85
  let c1_i32_86 : BitVec 32 := 1#32
  ⟨c0_i32_84, v182, c1_i32_86⟩
def k0_off17 (k0_t7 : Fin k0_t7_loop.trips) (c0_i32_139 : BitVec 32) : Fin 1 → Nat :=
  let c0_i32_84 : BitVec 32 := 0#32
  let c1_i32_86 : BitVec 32 := 1#32
  let arg11 : BitVec 32 := Scf.iv c0_i32_84 c1_i32_86 k0_t7
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]
@[reducible] def k0_t8_loop (v171 : BitVec 32) (v186 : BitVec 32) : Scf.Loop 32 :=
  let c0_i32_100 : BitVec 32 := 0#32
  let c5_i32_89 : BitVec 32 := 5#32
  let v187 : BitVec 1 := Scalar.cmpi .slt v186 c5_i32_89
  let c128_i32_90 : BitVec 32 := 128#32
  let v188 : BitVec 32 := Scalar.addi v171 c128_i32_90
  let c1_i32_91 : BitVec 32 := 1#32
  let v189 : BitVec 32 := Scalar.subi v188 c1_i32_91
  let c0_i32_93 : BitVec 32 := 0#32
  let v191 : BitVec 1 := Scalar.cmpi .sgt v189 c0_i32_93
  let v192 : BitVec 32 := Scalar.extui v191
  let c0_i32_94 : BitVec 32 := 0#32
  let v193 : BitVec 1 := Scalar.cmpi .slt v189 c0_i32_94
  let v194 : BitVec 32 := Scalar.extui v193
  let v195 : BitVec 32 := Scalar.subi v192 v194
  let c128_i32_92 : BitVec 32 := 128#32
  let c0_i32_95 : BitVec 32 := 0#32
  let v196 : BitVec 1 := Scalar.cmpi .sgt c128_i32_92 c0_i32_95
  let v197 : BitVec 32 := Scalar.extui v196
  let c0_i32_96 : BitVec 32 := 0#32
  let v198 : BitVec 1 := Scalar.cmpi .slt c128_i32_92 c0_i32_96
  let v199 : BitVec 32 := Scalar.extui v198
  let v200 : BitVec 32 := Scalar.subi v197 v199
  let v201 : BitVec 1 := Scalar.cmpi .ne v195 v200
  let v202 : BitVec 32 := Scalar.remsi v189 c128_i32_92
  let c0_i32_97 : BitVec 32 := 0#32
  let v203 : BitVec 1 := Scalar.cmpi .ne v202 c0_i32_97
  let v204 : BitVec 1 := Scalar.andi v201 v203
  let v190 : BitVec 32 := Scalar.divsi v189 c128_i32_92
  let c1_i32_98 : BitVec 32 := 1#32
  let v205 : BitVec 32 := Scalar.subi v190 c1_i32_98
  let v206 : BitVec 32 := Scalar.select v204 v205 v190
  let c0_i32_99 : BitVec 32 := 0#32
  let v207 : BitVec 32 := Scalar.select v187 v206 c0_i32_99
  let v208 : BitVec 32 := Scalar.subi v207 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_102 : BitVec 32 := 1#32
  ⟨c0_i32_100, v212, c1_i32_102⟩

def k0_off18 (v171 : BitVec 32) (v186 : BitVec 32) (k0_t8 : Fin (k0_t8_loop v171 v186).trips) (c0_i32_139 : BitVec 32) : Fin 1 → Nat :=
  let c0_i32_100 : BitVec 32 := 0#32
  let c1_i32_102 : BitVec 32 := 1#32
  let arg11 : BitVec 32 := Scf.iv c0_i32_100 c1_i32_102 k0_t8
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]
@[reducible] def k0_t9_loop (v171 : BitVec 32) (v186 : BitVec 32) : Scf.Loop 32 :=
  let c0_i32_100 : BitVec 32 := 0#32
  let c5_i32_89 : BitVec 32 := 5#32
  let v187 : BitVec 1 := Scalar.cmpi .slt v186 c5_i32_89
  let c128_i32_90 : BitVec 32 := 128#32
  let v188 : BitVec 32 := Scalar.addi v171 c128_i32_90
  let c1_i32_91 : BitVec 32 := 1#32
  let v189 : BitVec 32 := Scalar.subi v188 c1_i32_91
  let c0_i32_93 : BitVec 32 := 0#32
  let v191 : BitVec 1 := Scalar.cmpi .sgt v189 c0_i32_93
  let v192 : BitVec 32 := Scalar.extui v191
  let c0_i32_94 : BitVec 32 := 0#32
  let v193 : BitVec 1 := Scalar.cmpi .slt v189 c0_i32_94
  let v194 : BitVec 32 := Scalar.extui v193
  let v195 : BitVec 32 := Scalar.subi v192 v194
  let c128_i32_92 : BitVec 32 := 128#32
  let c0_i32_95 : BitVec 32 := 0#32
  let v196 : BitVec 1 := Scalar.cmpi .sgt c128_i32_92 c0_i32_95
  let v197 : BitVec 32 := Scalar.extui v196
  let c0_i32_96 : BitVec 32 := 0#32
  let v198 : BitVec 1 := Scalar.cmpi .slt c128_i32_92 c0_i32_96
  let v199 : BitVec 32 := Scalar.extui v198
  let v200 : BitVec 32 := Scalar.subi v197 v199
  let v201 : BitVec 1 := Scalar.cmpi .ne v195 v200
  let v202 : BitVec 32 := Scalar.remsi v189 c128_i32_92
  let c0_i32_97 : BitVec 32 := 0#32
  let v203 : BitVec 1 := Scalar.cmpi .ne v202 c0_i32_97
  let v204 : BitVec 1 := Scalar.andi v201 v203
  let v190 : BitVec 32 := Scalar.divsi v189 c128_i32_92
  let c1_i32_98 : BitVec 32 := 1#32
  let v205 : BitVec 32 := Scalar.subi v190 c1_i32_98
  let v206 : BitVec 32 := Scalar.select v204 v205 v190
  let c0_i32_99 : BitVec 32 := 0#32
  let v207 : BitVec 32 := Scalar.select v187 v206 c0_i32_99
  let v208 : BitVec 32 := Scalar.subi v207 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let v209 : BitVec 32 := Scalar.addi c0_i32_100 v208
  let c1_i32_103 : BitVec 32 := 1#32
  ⟨v212, v209, c1_i32_103⟩
def k0_off19 (v171 : BitVec 32) (v186 : BitVec 32) (k0_t9 : Fin (k0_t9_loop v171 v186).trips) (c0_i32_139 : BitVec 32) : Fin 1 → Nat :=
  let c0_i32_100 : BitVec 32 := 0#32
  let c5_i32_89 : BitVec 32 := 5#32
  let v187 : BitVec 1 := Scalar.cmpi .slt v186 c5_i32_89
  let c128_i32_90 : BitVec 32 := 128#32
  let v188 : BitVec 32 := Scalar.addi v171 c128_i32_90
  let c1_i32_91 : BitVec 32 := 1#32
  let v189 : BitVec 32 := Scalar.subi v188 c1_i32_91
  let c0_i32_93 : BitVec 32 := 0#32
  let v191 : BitVec 1 := Scalar.cmpi .sgt v189 c0_i32_93
  let v192 : BitVec 32 := Scalar.extui v191
  let c0_i32_94 : BitVec 32 := 0#32
  let v193 : BitVec 1 := Scalar.cmpi .slt v189 c0_i32_94
  let v194 : BitVec 32 := Scalar.extui v193
  let v195 : BitVec 32 := Scalar.subi v192 v194
  let c128_i32_92 : BitVec 32 := 128#32
  let c0_i32_95 : BitVec 32 := 0#32
  let v196 : BitVec 1 := Scalar.cmpi .sgt c128_i32_92 c0_i32_95
  let v197 : BitVec 32 := Scalar.extui v196
  let c0_i32_96 : BitVec 32 := 0#32
  let v198 : BitVec 1 := Scalar.cmpi .slt c128_i32_92 c0_i32_96
  let v199 : BitVec 32 := Scalar.extui v198
  let v200 : BitVec 32 := Scalar.subi v197 v199
  let v201 : BitVec 1 := Scalar.cmpi .ne v195 v200
  let v202 : BitVec 32 := Scalar.remsi v189 c128_i32_92
  let c0_i32_97 : BitVec 32 := 0#32
  let v203 : BitVec 1 := Scalar.cmpi .ne v202 c0_i32_97
  let v204 : BitVec 1 := Scalar.andi v201 v203
  let v190 : BitVec 32 := Scalar.divsi v189 c128_i32_92
  let c1_i32_98 : BitVec 32 := 1#32
  let v205 : BitVec 32 := Scalar.subi v190 c1_i32_98
  let v206 : BitVec 32 := Scalar.select v204 v205 v190
  let c0_i32_99 : BitVec 32 := 0#32
  let v207 : BitVec 32 := Scalar.select v187 v206 c0_i32_99
  let v208 : BitVec 32 := Scalar.subi v207 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg11 : BitVec 32 := Scf.iv v212 c1_i32_103 k0_t9
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]

def k0_chk6 (v171 : BitVec 32) (v186 : BitVec 32) : Prop :=
  ((k0_t8_loop v171 v186).OK) ∧
  (∀ k0_t8 : Fin (k0_t8_loop v171 v186).trips, ∀ (r : Fin 8), ∀ a, (k0_off18 v171 v186 k0_t8 (BitVec.ofNat 32 r.val)) a + S16.size a ≤ S32896.size a) ∧
  ((k0_t9_loop v171 v186).OK) ∧
  (∀ k0_t9 : Fin (k0_t9_loop v171 v186).trips, ∀ (r : Fin 8), ∀ a, (k0_off19 v171 v186 k0_t9 (BitVec.ofNat 32 r.val)) a + S16.size a ≤ S32896.size a)
theorem k0_t8_ok : ∀ (v171 : BitVec 32) (v186 : BitVec 32) (k0_hw6 : k0_chk6 v171 v186), (k0_t8_loop v171 v186).OK := fun v171 v186 k0_hw6 => k0_hw6.1
theorem k0_off18_inb : ∀ (v171 : BitVec 32) (v186 : BitVec 32) (k0_hw6 : k0_chk6 v171 v186) (k0_t8 : Fin (k0_t8_loop v171 v186).trips), ∀ (r : Fin 8), ∀ a, (k0_off18 v171 v186 k0_t8 (BitVec.ofNat 32 r.val)) a + S16.size a ≤ S32896.size a := fun v171 v186 k0_hw6 k0_t8 r => k0_hw6.2.1 k0_t8 r
theorem k0_t9_ok : ∀ (v171 : BitVec 32) (v186 : BitVec 32) (k0_hw6 : k0_chk6 v171 v186), (k0_t9_loop v171 v186).OK := fun v171 v186 k0_hw6 => k0_hw6.2.2.1
theorem k0_off19_inb : ∀ (v171 : BitVec 32) (v186 : BitVec 32) (k0_hw6 : k0_chk6 v171 v186) (k0_t9 : Fin (k0_t9_loop v171 v186).trips), ∀ (r : Fin 8), ∀ a, (k0_off19 v171 v186 k0_t9 (BitVec.ofNat 32 r.val)) a + S16.size a ≤ S32896.size a := fun v171 v186 k0_hw6 k0_t9 r => k0_hw6.2.2.2 k0_t9 r

def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_72 : BitVec 32 := 4#32
  let v152 : BitVec 32 := Scalar.muli v1 c4_i32_72
  let c2_i32_73 : BitVec 32 := 2#32
  let v153 : BitVec 32 := Scalar.addi v152 c2_i32_73
  let c1_i32_74 : BitVec 32 := 1#32
  let v154 : BitVec 32 := Scalar.addi v153 c1_i32_74
  let c0_i32_110 : BitVec 32 := 0#32
  ![v154.toNat, 0]
def k0_off21 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_108 : BitVec 32 := 4#32
  let v222 : BitVec 32 := Scalar.muli v1 c4_i32_108
  let c3_i32 : BitVec 32 := 3#32
  let v223 : BitVec 32 := Scalar.addi v222 c3_i32
  let v230 : Index := Scalar.indexCast v223
  ![v230.toNat]
def k0_off22 (v234 : BitVec 32) : Fin 1 → Nat :=
  let v238 : Index := Scalar.indexCast v234
  ![v238.toNat]

def k0_chk7 (v234 : BitVec 32) : Prop :=
  (∀ a, (k0_off22 v234) a + S16.size a ≤ S32896.size a)
theorem k0_off22_inb : ∀ (v234 : BitVec 32) (k0_hw7 : k0_chk7 v234), ∀ a, (k0_off22 v234) a + S16.size a ≤ S32896.size a := fun v234 k0_hw7 => k0_hw7

@[reducible] def k0_t10_loop : Scf.Loop 32 :=
  let c0_i32_114 : BitVec 32 := 0#32
  let c256_i32_115 : BitVec 32 := 256#32
  let v245 : BitVec 32 := Scalar.addi c0_i32_114 c256_i32_115
  let c1_i32_116 : BitVec 32 := 1#32
  ⟨c0_i32_114, v245, c1_i32_116⟩
def k0_off23 (k0_t10 : Fin k0_t10_loop.trips) (c0_i32_139 : BitVec 32) : Fin 1 → Nat :=
  let c0_i32_114 : BitVec 32 := 0#32
  let c1_i32_116 : BitVec 32 := 1#32
  let arg11 : BitVec 32 := Scf.iv c0_i32_114 c1_i32_116 k0_t10
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]
@[reducible] def k0_t11_loop (v234 : BitVec 32) (v249 : BitVec 32) : Scf.Loop 32 :=
  let c0_i32_130 : BitVec 32 := 0#32
  let c5_i32_119 : BitVec 32 := 5#32
  let v250 : BitVec 1 := Scalar.cmpi .slt v249 c5_i32_119
  let c128_i32_120 : BitVec 32 := 128#32
  let v251 : BitVec 32 := Scalar.addi v234 c128_i32_120
  let c1_i32_121 : BitVec 32 := 1#32
  let v252 : BitVec 32 := Scalar.subi v251 c1_i32_121
  let c0_i32_123 : BitVec 32 := 0#32
  let v254 : BitVec 1 := Scalar.cmpi .sgt v252 c0_i32_123
  let v255 : BitVec 32 := Scalar.extui v254
  let c0_i32_124 : BitVec 32 := 0#32
  let v256 : BitVec 1 := Scalar.cmpi .slt v252 c0_i32_124
  let v257 : BitVec 32 := Scalar.extui v256
  let v258 : BitVec 32 := Scalar.subi v255 v257
  let c128_i32_122 : BitVec 32 := 128#32
  let c0_i32_125 : BitVec 32 := 0#32
  let v259 : BitVec 1 := Scalar.cmpi .sgt c128_i32_122 c0_i32_125
  let v260 : BitVec 32 := Scalar.extui v259
  let c0_i32_126 : BitVec 32 := 0#32
  let v261 : BitVec 1 := Scalar.cmpi .slt c128_i32_122 c0_i32_126
  let v262 : BitVec 32 := Scalar.extui v261
  let v263 : BitVec 32 := Scalar.subi v260 v262
  let v264 : BitVec 1 := Scalar.cmpi .ne v258 v263
  let v265 : BitVec 32 := Scalar.remsi v252 c128_i32_122
  let c0_i32_127 : BitVec 32 := 0#32
  let v266 : BitVec 1 := Scalar.cmpi .ne v265 c0_i32_127
  let v267 : BitVec 1 := Scalar.andi v264 v266
  let v253 : BitVec 32 := Scalar.divsi v252 c128_i32_122
  let c1_i32_128 : BitVec 32 := 1#32
  let v268 : BitVec 32 := Scalar.subi v253 c1_i32_128
  let v269 : BitVec 32 := Scalar.select v267 v268 v253
  let c0_i32_129 : BitVec 32 := 0#32
  let v270 : BitVec 32 := Scalar.select v250 v269 c0_i32_129
  let v271 : BitVec 32 := Scalar.subi v270 c0_i32_130
  let c1_i32_131 : BitVec 32 := 1#32
  let v273 : BitVec 32 := Scalar.divsi v271 c1_i32_131
  let v274 : BitVec 32 := Scalar.muli v273 c1_i32_131
  let v275 : BitVec 32 := Scalar.addi c0_i32_130 v274
  let c1_i32_132 : BitVec 32 := 1#32
  ⟨c0_i32_130, v275, c1_i32_132⟩

def k0_off24 (v234 : BitVec 32) (v249 : BitVec 32) (k0_t11 : Fin (k0_t11_loop v234 v249).trips) (c0_i32_139 : BitVec 32) : Fin 1 → Nat :=
  let c0_i32_130 : BitVec 32 := 0#32
  let c1_i32_132 : BitVec 32 := 1#32
  let arg11 : BitVec 32 := Scf.iv c0_i32_130 c1_i32_132 k0_t11
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]
@[reducible] def k0_t12_loop (v234 : BitVec 32) (v249 : BitVec 32) : Scf.Loop 32 :=
  let c0_i32_130 : BitVec 32 := 0#32
  let c5_i32_119 : BitVec 32 := 5#32
  let v250 : BitVec 1 := Scalar.cmpi .slt v249 c5_i32_119
  let c128_i32_120 : BitVec 32 := 128#32
  let v251 : BitVec 32 := Scalar.addi v234 c128_i32_120
  let c1_i32_121 : BitVec 32 := 1#32
  let v252 : BitVec 32 := Scalar.subi v251 c1_i32_121
  let c0_i32_123 : BitVec 32 := 0#32
  let v254 : BitVec 1 := Scalar.cmpi .sgt v252 c0_i32_123
  let v255 : BitVec 32 := Scalar.extui v254
  let c0_i32_124 : BitVec 32 := 0#32
  let v256 : BitVec 1 := Scalar.cmpi .slt v252 c0_i32_124
  let v257 : BitVec 32 := Scalar.extui v256
  let v258 : BitVec 32 := Scalar.subi v255 v257
  let c128_i32_122 : BitVec 32 := 128#32
  let c0_i32_125 : BitVec 32 := 0#32
  let v259 : BitVec 1 := Scalar.cmpi .sgt c128_i32_122 c0_i32_125
  let v260 : BitVec 32 := Scalar.extui v259
  let c0_i32_126 : BitVec 32 := 0#32
  let v261 : BitVec 1 := Scalar.cmpi .slt c128_i32_122 c0_i32_126
  let v262 : BitVec 32 := Scalar.extui v261
  let v263 : BitVec 32 := Scalar.subi v260 v262
  let v264 : BitVec 1 := Scalar.cmpi .ne v258 v263
  let v265 : BitVec 32 := Scalar.remsi v252 c128_i32_122
  let c0_i32_127 : BitVec 32 := 0#32
  let v266 : BitVec 1 := Scalar.cmpi .ne v265 c0_i32_127
  let v267 : BitVec 1 := Scalar.andi v264 v266
  let v253 : BitVec 32 := Scalar.divsi v252 c128_i32_122
  let c1_i32_128 : BitVec 32 := 1#32
  let v268 : BitVec 32 := Scalar.subi v253 c1_i32_128
  let v269 : BitVec 32 := Scalar.select v267 v268 v253
  let c0_i32_129 : BitVec 32 := 0#32
  let v270 : BitVec 32 := Scalar.select v250 v269 c0_i32_129
  let v271 : BitVec 32 := Scalar.subi v270 c0_i32_130
  let c1_i32_131 : BitVec 32 := 1#32
  let v273 : BitVec 32 := Scalar.divsi v271 c1_i32_131
  let v274 : BitVec 32 := Scalar.muli v273 c1_i32_131
  let v275 : BitVec 32 := Scalar.addi c0_i32_130 v274
  let v272 : BitVec 32 := Scalar.addi c0_i32_130 v271
  let c1_i32_133 : BitVec 32 := 1#32
  ⟨v275, v272, c1_i32_133⟩
def k0_off25 (v234 : BitVec 32) (v249 : BitVec 32) (k0_t12 : Fin (k0_t12_loop v234 v249).trips) (c0_i32_139 : BitVec 32) : Fin 1 → Nat :=
  let c0_i32_130 : BitVec 32 := 0#32
  let c5_i32_119 : BitVec 32 := 5#32
  let v250 : BitVec 1 := Scalar.cmpi .slt v249 c5_i32_119
  let c128_i32_120 : BitVec 32 := 128#32
  let v251 : BitVec 32 := Scalar.addi v234 c128_i32_120
  let c1_i32_121 : BitVec 32 := 1#32
  let v252 : BitVec 32 := Scalar.subi v251 c1_i32_121
  let c0_i32_123 : BitVec 32 := 0#32
  let v254 : BitVec 1 := Scalar.cmpi .sgt v252 c0_i32_123
  let v255 : BitVec 32 := Scalar.extui v254
  let c0_i32_124 : BitVec 32 := 0#32
  let v256 : BitVec 1 := Scalar.cmpi .slt v252 c0_i32_124
  let v257 : BitVec 32 := Scalar.extui v256
  let v258 : BitVec 32 := Scalar.subi v255 v257
  let c128_i32_122 : BitVec 32 := 128#32
  let c0_i32_125 : BitVec 32 := 0#32
  let v259 : BitVec 1 := Scalar.cmpi .sgt c128_i32_122 c0_i32_125
  let v260 : BitVec 32 := Scalar.extui v259
  let c0_i32_126 : BitVec 32 := 0#32
  let v261 : BitVec 1 := Scalar.cmpi .slt c128_i32_122 c0_i32_126
  let v262 : BitVec 32 := Scalar.extui v261
  let v263 : BitVec 32 := Scalar.subi v260 v262
  let v264 : BitVec 1 := Scalar.cmpi .ne v258 v263
  let v265 : BitVec 32 := Scalar.remsi v252 c128_i32_122
  let c0_i32_127 : BitVec 32 := 0#32
  let v266 : BitVec 1 := Scalar.cmpi .ne v265 c0_i32_127
  let v267 : BitVec 1 := Scalar.andi v264 v266
  let v253 : BitVec 32 := Scalar.divsi v252 c128_i32_122
  let c1_i32_128 : BitVec 32 := 1#32
  let v268 : BitVec 32 := Scalar.subi v253 c1_i32_128
  let v269 : BitVec 32 := Scalar.select v267 v268 v253
  let c0_i32_129 : BitVec 32 := 0#32
  let v270 : BitVec 32 := Scalar.select v250 v269 c0_i32_129
  let v271 : BitVec 32 := Scalar.subi v270 c0_i32_130
  let c1_i32_131 : BitVec 32 := 1#32
  let v273 : BitVec 32 := Scalar.divsi v271 c1_i32_131
  let v274 : BitVec 32 := Scalar.muli v273 c1_i32_131
  let v275 : BitVec 32 := Scalar.addi c0_i32_130 v274
  let c1_i32_133 : BitVec 32 := 1#32
  let arg11 : BitVec 32 := Scf.iv v275 c1_i32_133 k0_t12
  let c8_i32 : BitVec 32 := 8#32
  let v313 : BitVec 32 := Scalar.muli arg11 c8_i32
  let v314 : BitVec 32 := Scalar.addi v313 c0_i32_139
  let c16_i32 : BitVec 32 := 16#32
  let v315 : BitVec 32 := Scalar.muli v314 c16_i32
  let v316 : Index := Scalar.indexCast v315
  ![v316.toNat]

def k0_chk8 (v234 : BitVec 32) (v249 : BitVec 32) : Prop :=
  ((k0_t11_loop v234 v249).OK) ∧
  (∀ k0_t11 : Fin (k0_t11_loop v234 v249).trips, ∀ (r : Fin 8), ∀ a, (k0_off24 v234 v249 k0_t11 (BitVec.ofNat 32 r.val)) a + S16.size a ≤ S32896.size a) ∧
  ((k0_t12_loop v234 v249).OK) ∧
  (∀ k0_t12 : Fin (k0_t12_loop v234 v249).trips, ∀ (r : Fin 8), ∀ a, (k0_off25 v234 v249 k0_t12 (BitVec.ofNat 32 r.val)) a + S16.size a ≤ S32896.size a)
theorem k0_t11_ok : ∀ (v234 : BitVec 32) (v249 : BitVec 32) (k0_hw8 : k0_chk8 v234 v249), (k0_t11_loop v234 v249).OK := fun v234 v249 k0_hw8 => k0_hw8.1
theorem k0_off24_inb : ∀ (v234 : BitVec 32) (v249 : BitVec 32) (k0_hw8 : k0_chk8 v234 v249) (k0_t11 : Fin (k0_t11_loop v234 v249).trips), ∀ (r : Fin 8), ∀ a, (k0_off24 v234 v249 k0_t11 (BitVec.ofNat 32 r.val)) a + S16.size a ≤ S32896.size a := fun v234 v249 k0_hw8 k0_t11 r => k0_hw8.2.1 k0_t11 r
theorem k0_t12_ok : ∀ (v234 : BitVec 32) (v249 : BitVec 32) (k0_hw8 : k0_chk8 v234 v249), (k0_t12_loop v234 v249).OK := fun v234 v249 k0_hw8 => k0_hw8.2.2.1
theorem k0_off25_inb : ∀ (v234 : BitVec 32) (v249 : BitVec 32) (k0_hw8 : k0_chk8 v234 v249) (k0_t12 : Fin (k0_t12_loop v234 v249).trips), ∀ (r : Fin 8), ∀ a, (k0_off25 v234 v249 k0_t12 (BitVec.ofNat 32 r.val)) a + S16.size a ≤ S32896.size a := fun v234 v249 k0_hw8 k0_t12 r => k0_hw8.2.2.2 k0_t12 r

def k0_off26 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_139_r1 : BitVec 32 := 0#32
  ![v1.toNat, 0]
abbrev grid1 : Pipeline.Grid := .none

abbrev stage1_0 : Fin 1 → Memref sig .tc .vmem S32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S128 : Shape := ⟨1, ![128]⟩
abbrev S128x5 : Shape := ⟨2, ![128, 5]⟩
abbrev S5x128 : Shape := ⟨2, ![5, 128]⟩
abbrev S1x128 : Shape := ⟨2, ![1, 128]⟩
abbrev S640 : Shape := ⟨1, ![640]⟩
abbrev S_ : Shape := ⟨0, ![]⟩
abbrev S1 : Shape := ⟨1, ![1]⟩

abbrev nBuf : Space → Nat
  | .hbm => 16
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128, .i32⟩
  | .hbm, ⟨2, _⟩ => ⟨S128x5, .f32⟩
  | .hbm, ⟨3, _⟩ => ⟨S128x5, .i32⟩
  | .hbm, ⟨4, _⟩ => ⟨S5x128, .i32⟩
  | .hbm, ⟨5, _⟩ => ⟨S1x128, .i32⟩
  | .hbm, ⟨6, _⟩ => ⟨S5x128, .i32⟩
  | .hbm, ⟨7, _⟩ => ⟨S5x128, .i1⟩
  | .hbm, ⟨8, _⟩ => ⟨S640, .i1⟩
  | .hbm, ⟨9, _⟩ => ⟨S640, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Count.lean ====
/-
  Counting in sixteen lanes. A row of numbers is read sixteen columns at a time; lane `l` of the running vector holds
  how many of the columns `l`, `16 + l`, `32 + l`, … read so far satisfy a test. This module says what one trip of
  eight reads does to that vector, what the sum of its lanes is, how many trips the second pass of a row makes, and
  when a row counts as a hit.
-/
module

public import Idealize.ShloMosaic.Lib.LoopRemainder
public import Idealize.ShloMosaic.Lib.WordArith
public import Idealize.ShloMosaic.Lib.Affine
public import Idealize.ShloMosaic.Lib.Tactic
public import Mathlib.Data.Nat.Count

@[expose] public section

namespace Cert.KernelIdeal.Count

open Idealize.ShloMosaic

/-- The shape of a vector of sixteen lanes. -/
abbrev L16 : Shape := ⟨1, ![16]⟩
/-- The shape of a vector of one lane. -/
abbrev L1 : Shape := ⟨1, ![1]⟩

/-- How many of the columns below `n` satisfy the test `p`. -/
def cnt (p : Nat → BitVec 1) (n : Nat) : Nat := Nat.count (fun i => p i = 1#1) n

/-- The running vector after `n` reads: lane `l` counts the columns `16 i + l` with `i < n` that satisfy `p`. -/
def laneAcc (p : Nat → BitVec 1) (n : Nat) : IVec L16 32 :=
  fun l => BitVec.ofNat 32 (cnt (fun i => p (16 * i + (l 0).val)) n)

/-- Before any read every lane holds zero. -/
theorem laneAcc_zero (p : Nat → BitVec 1) : laneAcc p 0 = fun _ => 0#32 := by
  funext l; simp [laneAcc, cnt]

/-- What one more column does to a count. -/
theorem cnt_succ (p : Nat → BitVec 1) (n : Nat) : cnt p (n + 1) = cnt p n + if p n = 1#1 then 1 else 0 := by
  simp [cnt, Nat.count_succ]

/-- A count never passes the number of columns. -/
theorem cnt_le (p : Nat → BitVec 1) (n : Nat) : cnt p n ≤ n := Nat.count_le _

/-- One read: adding the 0/1 vector of the test at the sixteen columns from `16 n` takes the vector after `n` reads to
    the vector after `n + 1`. -/
theorem laneAcc_step (p : Nat → BitVec 1) (n : Nat) (acc one zero : IVec L16 32) (c : IVec L16 1)
    (hacc : acc = laneAcc p n) (h1 : one = fun _ => 1#32) (h0 : zero = fun _ => 0#32)
    (hc : ∀ l : L16.Idx, c l = p (16 * n + (l 0).val)) :
    addi acc (select c one zero) = laneAcc p (n + 1) := by
  subst hacc h1 h0
  funext l
  show laneAcc p n l + (if c l = 1 then 1#32 else 0#32) = _
  show BitVec.ofNat 32 _ + (if c l = 1#1 then 1#32 else 0#32) = BitVec.ofNat 32 (cnt _ (n + 1))
  rw [cnt_succ, hc l]
  by_cases h : p (16 * n + (l 0).val) = 1#1
  · rw [if_pos h, if_pos h, BitVec.ofNat_add]
  · rw [if_neg h, if_neg h]; simp

/-- One trip: eight reads in a row. -/
theorem laneAcc_trip (p : Nat → BitVec 1) (k : Nat) (acc one zero : IVec L16 32)
    (c0 c1 c2 c3 c4 c5 c6 c7 : IVec L16 1) (hacc : acc = laneAcc p (8 * k))
    (h1 : one = fun _ => 1#32) (h0 : zero = fun _ => 0#32)
    (g0 : ∀ l : L16.Idx, c0 l = p (16 * (8 * k) + (l 0).val))
    (g1 : ∀ l : L16.Idx, c1 l = p (16 * (8 * k + 1) + (l 0).val))
    (g2 : ∀ l : L16.Idx, c2 l = p (16 * (8 * k + 2) + (l 0).val))
    (g3 : ∀ l : L16.Idx, c3 l = p (16 * (8 * k + 3) + (l 0).val))
    (g4 : ∀ l : L16.Idx, c4 l = p (16 * (8 * k + 4) + (l 0).val))
    (g5 : ∀ l : L16.Idx, c5 l = p (16 * (8 * k + 5) + (l 0).val))
    (g6 : ∀ l : L16.Idx, c6 l = p (16 * (8 * k + 6) + (l 0).val))
    (g7 : ∀ l : L16.Idx, c7 l = p (16 * (8 * k + 7) + (l 0).val)) :
    addi (addi (addi (addi (addi (addi (addi (addi acc (select c0 one zero)) (select c1 one zero)) (select c2 one zero))
      (select c3 one zero)) (select c4 one zero)) (select c5 one zero)) (select c6 one zero)) (select c7 one zero)
      = laneAcc p (8 * (k + 1)) :=
  laneAcc_step p (8 * k + 7) _ one zero c7
    (laneAcc_step p (8 * k + 6) _ one zero c6
      (laneAcc_step p (8 * k + 5) _ one zero c5
        (laneAcc_step p (8 * k + 4) _ one zero c4
          (laneAcc_step p (8 * k + 3) _ one zero c3
            (laneAcc_step p (8 * k + 2) _ one zero c2
              (laneAcc_step p (8 * k + 1) _ one zero c1
                (laneAcc_step p (8 * k) acc one zero c0 hacc h1 h0 g0) h1 h0 g1) h1 h0 g2) h1 h0 g3) h1 h0 g4)
        h1 h0 g5) h1 h0 g6) h1 h0 g7

/-- The sum of sixteen words, first to last. -/
def sum16 (v0 v1 v2 v3 v4 v5 v6 v7 v8 v9 v10 v11 v12 v13 v14 v15 : BitVec 32) : BitVec 32 :=
  Scalar.addi (Scalar.addi (Scalar.addi (Scalar.addi (Scalar.addi (Scalar.addi (Scalar.addi (Scalar.addi (Scalar.addi
    (Scalar.addi (Scalar.addi (Scalar.addi (Scalar.addi (Scalar.addi (Scalar.addi v0 v1) v2) v3) v4) v5) v6) v7) v8) v9)
    v10) v11) v12) v13) v14) v15

/-- The lane `r` of a vector. -/
def lane (v : IVec L16 32) (r : Fin 16) : BitVec 32 :=
  v (fun a => ⟨r.val, by have h := Subsingleton.elim a 0; subst h; exact r.isLt⟩)

/-- Sixteen more columns add the sixteen tests. -/
theorem cnt_block (p : Nat → BitVec 1) (n : Nat) :
    cnt p (16 * (n + 1)) = cnt p (16 * n)
      + ((((((((((((((((if p (16 * n) = 1#1 then 1 else 0) + if p (16 * n + 1) = 1#1 then 1 else 0)
      + if p (16 * n + 2) = 1#1 then 1 else 0) + if p (16 * n + 3) = 1#1 then 1 else 0)
      + if p (16 * n + 4) = 1#1 then 1 else 0) + if p (16 * n + 5) = 1#1 then 1 else 0)
      + if p (16 * n + 6) = 1#1 then 1 else 0) + if p (16 * n + 7) = 1#1 then 1 else 0)
      + if p (16 * n + 8) = 1#1 then 1 else 0) + if p (16 * n + 9) = 1#1 then 1 else 0)
      + if p (16 * n + 10) = 1#1 then 1 else 0) + if p (16 * n + 11) = 1#1 then 1 else 0)
      + if p (16 * n + 12) = 1#1 then 1 else 0) + if p (16 * n + 13) = 1#1 then 1 else 0)
      + if p (16 * n + 14) = 1#1 then 1 else 0) + if p (16 * n + 15) = 1#1 then 1 else 0) := by
  have h : 16 * (n + 1) = 16 * n + 1 + 1 + 1 + 1 + 1 + 1 + 1 + 1 + 1 + 1 + 1 + 1 + 1 + 1 + 1 + 1 := by omega
  rw [h]
  simp only [cnt_succ, Nat.add_assoc, Nat.reduceAdd]

/-- The lanes count the row's first `16 n` columns between them. -/
theorem cnt_lanes (p : Nat → BitVec 1) (n : Nat) :
    (((((((((((((((cnt (fun i => p (16 * i + 0)) n + cnt (fun i => p (16 * i + 1)) n) + cnt (fun i => p (16 * i + 2)) n)
      + cnt (fun i => p (16 * i + 3)) n) + cnt (fun i => p (16 * i + 4)) n) + cnt (fun i => p (16 * i + 5)) n)
      + cnt (fun i => p (16 * i + 6)) n) + cnt (fun i => p (16 * i + 7)) n) + cnt (fun i => p (16 * i + 8)) n)
      + cnt (fun i => p (16 * i + 9)) n) + cnt (fun i => p (16 * i + 10)) n) + cnt (fun i => p (16 * i + 11)) n)
      + cnt (fun i => p (16 * i + 12)) n) + cnt (fun i => p (16 * i + 13)) n) + cnt (fun i => p (16 * i + 14)) n)
      + cnt (fun i => p (16 * i + 15)) n) = cnt p (16 * n) := by
  induction n with
  | zero => simp [cnt]
  | succ n ih =>
      rw [cnt_block p n, ← ih]
      simp only [cnt_succ, Nat.add_zero]
      omega

/-- The sum of the lanes after `n` reads is the count over the row's first `16 n` columns. -/
theorem sum_laneAcc (p : Nat → BitVec 1) (n : Nat) (v : IVec L16 32) (hv : v = laneAcc p n) :
    sum16 (lane v 0) (lane v 1) (lane v 2) (lane v 3) (lane v 4) (lane v 5) (lane v 6) (lane v 7) (lane v 8) (lane v 9)
      (lane v 10) (lane v 11) (lane v 12) (lane v 13) (lane v 14) (lane v 15) = BitVec.ofNat 32 (cnt p (16 * n)) := by
  subst hv
  rw [← cnt_lanes p n]
  unfold sum16 lane laneAcc Scalar.addi IntOp.addi
  simp only [BitVec.ofNat_add]
  repeat' apply congrArg₂
  all_goals rfl

/-! ## The second pass of a row -/

/-- How many trips the second pass is to make, as the kernel computes it: none when five columns or more passed the
    first test; otherwise the label over 128, rounded up. -/
def eqTrips (s lab : BitVec 32) : BitVec 32 :=
  Scalar.select (Scalar.cmpi .slt s 5#32)
    (Scalar.select
      (Scalar.andi
        (Scalar.cmpi .ne
          (Scalar.subi (Scalar.extui (Scalar.cmpi .sgt (Scalar.subi (Scalar.addi lab 128#32) 1#32) 0#32))
            (Scalar.extui (Scalar.cmpi .slt (Scalar.subi (Scalar.addi lab 128#32) 1#32) 0#32)))
          (Scalar.subi (Scalar.extui (Scalar.cmpi .sgt 128#32 0#32)) (Scalar.extui (Scalar.cmpi .slt 128#32 0#32))))
        (Scalar.cmpi .ne (Scalar.remsi (Scalar.subi (Scalar.addi lab 128#32) 1#32) 128#32) 0#32))
      (Scalar.subi (Scalar.divsi (Scalar.subi (Scalar.addi lab 128#32) 1#32) 128#32) 1#32)
      (Scalar.divsi (Scalar.subi (Scalar.addi lab 128#32) 1#32) 128#32))
    0#32

/-- The upper bound of the second pass's loop. -/
def eqBound (s lab : BitVec 32) : BitVec 32 :=
  Scalar.addi 0#32 (Scalar.muli (Scalar.divsi (Scalar.subi (eqTrips s lab) 0#32) 1#32) 1#32)

/-- The number of trips, as a number. -/
def eqN (s lab : BitVec 32) : Nat := if s.slt 5#32 then (lab.toNat + 127) / 128 else 0

theorem eqN_le (s lab : BitVec 32) (h : lab.toNat < 32768) : eqN s lab ≤ 256 := by
  unfold eqN; split <;> omega

/-- A label in range, as a signed number. -/
theorem toInt_of_lt (lab : BitVec 32) (h : lab.toNat < 32768) : lab.toInt = lab.toNat := by
  rw [BitVec.toInt_eq_toNat_cond, if_pos (by omega)]

/-- The kernel's count of trips is that number. -/
theorem eqTrips_eq (s lab : BitVec 32) (h : lab.toNat < 32768) : eqTrips s lab = BitVec.ofNat 32 (eqN s lab) := by
  have hl := toInt_of_lt lab h
  have e93 : Affine.IsInt (Scalar.subi (Scalar.addi lab 128#32) 1#32) (lab.toNat + 127) :=
    Affine.subi (Affine.addi (ea := lab.toNat) (by rw [← hl]; exact Affine.word lab) (Affine.ofNat 128 ⟨rfl, by decide⟩)
      ⟨rfl, by omega, by omega⟩) (Affine.ofNat 1 ⟨rfl, by decide⟩) ⟨by omega, by omega, by omega⟩
  have z : Affine.IsInt 0#32 0 := Affine.ofNat 0 ⟨rfl, by decide⟩
  have hdiv : Scalar.divsi (Scalar.subi (Scalar.addi lab 128#32) 1#32) 128#32 = BitVec.ofNat 32 ((lab.toNat + 127) / 128) := by
    have e := Affine.divsi e93 (Affine.ofNat 128 ⟨rfl, by decide⟩) ⟨rfl, by omega, by decide⟩
    have e' : Affine.IsInt (BitVec.ofNat 32 ((lab.toNat + 127) / 128)) (((lab.toNat : Int) + 127) / 128) :=
      Affine.ofNat _ ⟨by omega, by omega⟩
    unfold Affine.IsInt at e e'
    exact BitVec.eq_of_toInt_eq (e.trans e'.symm)
  have hgt : Scalar.cmpi .sgt (Scalar.subi (Scalar.addi lab 128#32) 1#32) 0#32 = 1#1 := Affine.sgt_holds e93 z (by omega)
  have hlt : Scalar.cmpi .slt (Scalar.subi (Scalar.addi lab 128#32) 1#32) 0#32 = 0#1 := by
    have hf : Scalar.cmpi .slt (Scalar.subi (Scalar.addi lab 128#32) 1#32) 0#32 ≠ 1#1 :=
      Affine.slt_fails e93 z (by omega)
    generalize Scalar.cmpi .slt (Scalar.subi (Scalar.addi lab 128#32) 1#32) 0#32 = b at hf
    revert hf; revert b; decide
  unfold eqTrips eqN
  rw [hgt, hlt, hdiv]
  have hs : Scalar.cmpi .ne
      (Scalar.subi (Scalar.extui 1#1) (Scalar.extui 0#1))
      (Scalar.subi (Scalar.extui (Scalar.cmpi .sgt 128#32 0#32)) (Scalar.extui (Scalar.cmpi .slt 128#32 0#32))) = 0#1 := by
    decide
  rw [hs]
  have ha : ∀ b : BitVec 1, Scalar.andi 0#1 b = 0#1 := by decide
  rw [ha]
  show (if BitVec.ofBool (s.slt 5#32) = 1 then _ else _) = _
  cases s.slt 5#32 <;> rfl

/-- So the loop's bound is that number too. -/
theorem eqBound_eq (s lab : BitVec 32) (h : lab.toNat < 32768) : eqBound s lab = BitVec.ofNat 32 (eqN s lab) := by
  unfold eqBound
  rw [Scalar.muli_divsi_one, eqTrips_eq s lab h]
  show 0#32 + (BitVec.ofNat 32 (eqN s lab) - 0#32) = _
  simp

/-- The second pass makes that many trips. -/
theorem trips_eqBound (s lab : BitVec 32) (h : lab.toNat < 32768) : Scf.trips 0#32 (eqBound s lab) 1#32 = eqN s lab := by
  have hle := eqN_le s lab h
  unfold Scf.trips
  rw [eqBound_eq s lab h, WordArith.toInt_ofNat_small _ (by omega)]
  have h1 : (1#32 : BitVec 32).toInt = 1 := by decide
  have h0 : (0#32 : BitVec 32).toInt = 0 := by decide
  rw [h1, h0]
  omega

/-- Its loop has a meaning. -/
theorem ok_eqBound (s lab : BitVec 32) (h : lab.toNat < 32768) : Scf.OK 0#32 (eqBound s lab) 1#32 := by
  have hle := eqN_le s lab h
  unfold Scf.OK
  rw [trips_eqBound s lab h]
  have h1 : (1#32 : BitVec 32).toInt = 1 := by decide
  have h0 : (0#32 : BitVec 32).toInt = 0 := by decide
  rw [h1, h0]
  constructor
  · decide
  · have : (2 : Int) ^ (32 - 1) = 2147483648 := by decide
    rw [this]; omega

/-- The first column of read `r` of trip `k`, as the kernel computes it. -/
def base (k : Nat) (r : BitVec 32) : BitVec 32 :=
  Scalar.muli (Scalar.addi (Scalar.muli (Scf.iv 0#32 1#32 k) 8#32) r) 16#32

/-- That column. -/
theorem base_eq (k r : Nat) : base k (BitVec.ofNat 32 r) = BitVec.ofNat 32 (16 * (8 * k + r)) := by
  show (((0#32 + BitVec.ofNat 32 k * 1#32) * 8#32) + BitVec.ofNat 32 r) * 16#32 = _
  rw [BitVec.mul_one, BitVec.zero_add, show (8#32) = BitVec.ofNat 32 8 from rfl, show (16#32) = BitVec.ofNat 32 16 from rfl,
    ← BitVec.ofNat_mul, ← BitVec.ofNat_add, ← BitVec.ofNat_mul]
  congr 1; omega

theorem toNat_base (k r : Nat) (hk : k < 256) (hr : r < 8) : (base k (BitVec.ofNat 32 r)).toNat = 16 * (8 * k + r) := by
  rw [base_eq, BitVec.toNat_ofNat]; omega

/-- The read stays inside the row buffer. -/
theorem base_inb (k r : Nat) (hk : k < 256) (hr : r < 8) : (base k (BitVec.ofNat 32 r)).toNat + 16 ≤ 32896 := by
  rw [toNat_base k r hk hr]; omega

/-! ## The tests, and when a row is a hit -/

section Tests
variable {F : FTy → Type} [FloatOps F]

/-- The first test at a column: its number is greater than `v`. -/
def gtP (x : Nat → F .f32) (v : F .f32) (j : Nat) : BitVec 1 := FloatOps.cmpf .ogt (x j) v

/-- The second test: its number equals `v` and the column comes before the label. -/
def eqP (x : Nat → F .f32) (v : F .f32) (lab : BitVec 32) (j : Nat) : BitVec 1 :=
  IntOp.andi (FloatOps.cmpf .oeq (x j) v) (IntOp.cmpi .slt (BitVec.ofNat 32 j) lab)

/-- The number of columns that come before the label's in the order of the row: the greater ones, and the equal ones
    further left. -/
def rank (x : Nat → F .f32) (v : F .f32) (lab : Nat) : Nat :=
  cnt (gtP x v) 32768 + cnt (fun j => FloatOps.cmpf .oeq (x j) v) lab

/-- A row's hit: one when fewer than five columns come before the label's, else zero. -/
def hit (x : Nat → F .f32) (v : F .f32) (lab : Nat) : BitVec 32 := if rank x v lab < 5 then 1#32 else 0#32

/-- Past the label the second test fails; so any number of columns from the label on gives one count. -/
theorem cnt_eqP (x : Nat → F .f32) (v : F .f32) (lab : BitVec 32) (h : lab.toNat < 32768) (n : Nat) (hn : n ≤ 32768)
    (hl : lab.toNat ≤ n) : cnt (eqP x v lab) n = cnt (fun j => FloatOps.cmpf .oeq (x j) v) lab.toNat := by
  have key : ∀ m, m ≤ 32768 → cnt (eqP x v lab) m = cnt (fun j => FloatOps.cmpf .oeq (x j) v) (min m lab.toNat) := by
    intro m
    induction m with
    | zero => intro _; simp [cnt]
    | succ m ih =>
        intro hm
        rw [cnt_succ, ih (by omega)]
        have hs : IntOp.cmpi .slt (BitVec.ofNat 32 m) lab = BitVec.ofBool (decide (m < lab.toNat)) := by
          show BitVec.ofBool (BitVec.slt _ _) = _
          congr 1
          rw [BitVec.slt_eq_decide, toInt_of_lt lab h, WordArith.toInt_ofNat_small _ (by omega)]
          simp
        unfold eqP
        rw [hs]
        by_cases hc : m < lab.toNat
        · rw [Nat.min_eq_left (by omega), Nat.min_eq_left (by omega), cnt_succ]
          simp only [hc, decide_true]
          congr 2
          generalize (FloatOps.cmpf CmpFPredicate.oeq (x m) v : BitVec 1) = b
          revert b; decide
        · rw [Nat.min_eq_right (by omega), Nat.min_eq_right (by omega)]
          simp only [hc, decide_false]
          generalize (FloatOps.cmpf CmpFPredicate.oeq (x m) v : BitVec 1) = b
          rw [if_neg (by revert b; decide), Nat.add_zero]
  rw [key n hn, Nat.min_eq_right hl]

/-- A count of columns is below five as a word when it is as a number. -/
theorem slt_five (n : Nat) (h : n < 2 ^ 31) : (BitVec.ofNat 32 n).slt 5#32 = decide (n < 5) := by
  rw [BitVec.slt_eq_decide, WordArith.toInt_ofNat_small _ h]
  have : (5#32 : BitVec 32).toInt = 5 := by decide
  rw [this]
  rw [decide_eq_decide]
  omega

/-- What the kernel says of a row: with `g` the lanes' sum of the first pass and the second pass's vector after its
    trips, the 0/1 word it adds is the row's hit. -/
theorem hit_eq (x : Nat → F .f32) (v : F .f32) (lab g e : BitVec 32) (h : lab.toNat < 32768)
    (hg : g = BitVec.ofNat 32 (cnt (gtP x v) 32768))
    (he : e = BitVec.ofNat 32 (cnt (eqP x v lab) (16 * (8 * eqN g lab)))) :
    Scalar.select (Scalar.cmpi .slt (Scalar.addi g e) 5#32) 1#32 0#32 = hit x v lab.toNat := by
  have hgle := cnt_le (gtP x v) 32768
  have hr : lab.toNat ≤ 32768 := by omega
  have hele := cnt_le (fun j => FloatOps.cmpf .oeq (x j) v) lab.toNat
  have hs : ∀ b : Bool, Scalar.select (BitVec.ofBool b) 1#32 0#32 = if b then 1#32 else 0#32 := by decide
  show Scalar.select (BitVec.ofBool ((g + e).slt 5#32)) 1#32 0#32 = _
  rw [hs]
  unfold hit rank
  subst hg
  unfold eqN at he
  rw [slt_five _ (by omega)] at he
  by_cases h5 : cnt (gtP x v) 32768 < 5
  · rw [if_pos (by simpa using h5), cnt_eqP x v lab h _ (by omega) (by omega)] at he
    subst he
    rw [← BitVec.ofNat_add, slt_five _ (by omega)]
    simp
  · rw [if_neg (by simpa using h5)] at he
    have : e = 0#32 := by rw [he]; simp [cnt]
    subst this
    rw [BitVec.add_zero, slt_five _ (by omega), if_neg (by simpa using h5), if_neg (by omega)]

end Tests

end Cert.KernelIdeal.Count

end
-- ==== Proof.Row.lean ====
/-
  One row of the kernel: the pass that counts the greater numbers, the pass that counts the equal ones before the label,
  and the sum of the lanes. Every lemma is about the printed text for the first row, over any row buffer; the texts for
  the other rows are the same with the two buffers exchanged, or not.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.LoopRemainder
public import Idealize.ShloMosaic.Lib.Pipeline.Value
public import Idealize.ShloMosaic.Lib.Pipeline.ValueKit
public import proofs.«01_k».proof.Proof.Gen.KernelIdeal
public import proofs.«01_k».proof.Proof.Gen.KernelIdeal.Skeleton
public import proofs.«01_k».proof.Proof.Count

@[expose] public section

noncomputable section

namespace Cert.KernelIdeal.Row

open Cert.KernelIdeal Cert.KernelIdeal.Gen Cert.KernelIdeal.Count

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
abbrev UH : Type := URounds (GSem nD τ sig) ℕ
/-- The ghost state: the call's handshakes, the staging of the reduction's pipeline, the copies' counters. -/
abbrev UU : Type := UH × (URounds (GSem nD τ sig) Unit × Counters)

local notation "𝕄" => MT nD τ sig (HIx 1) (Elt F) ℕ UU ℕ

variable [FloatOps F]

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A row buffer holds the row `x` in its first 32768 places. -/
def Holds (B : Memref sig .scVector .vmem S32896 .f32) (f : Buf (Elt F) (B.view.loc (thr d L))) (x : Nat → F .f32) : Prop :=
  ∀ j : S32896.Idx, (j 0).val < 32768 → B.view.read (Elt F) f j = x (j 0).val

variable (arg2 : Memref sig .scVector .hbm S128x32768 .f32) (harg2 : arg2.IsWhole)
  (arg3 : Memref sig .scVector .hbm S128 .i32) (harg3 : arg3.IsWhole)
  (arg4 : Memref sig .scVector .hbm S32x128 .f32) (harg4 : arg4.IsWhole)
  (arg5 : Memref sig .scVector .vmem S32896 .f32) (harg5 : arg5.IsWhole)
  (arg6 : Memref sig .scVector .vmem S32896 .f32) (harg6 : arg6.IsWhole)
  (arg7 : Memref sig .scVector .vmem S144 .i32) (harg7 : arg7.IsWhole)
  (arg8 : Memref sig .scVector .vmem S128 .f32) (harg8 : arg8.IsWhole)
  (arg9 arg10 r0 r1 : DmaSems sig S_)

/-- Sixteen places read from place `16 n` on are the row's there. -/
theorem read_at (B : Memref sig .scVector .vmem S32896 .f32) (f : Buf (Elt F) (B.view.loc (thr d L))) (x : Nat → F .f32)
    (hx : Holds d L B f x) (off : Fin 1 → Nat) (h : ∀ a, off a + S16.size a ≤ S32896.size a) (n : Nat) (hn : off 0 = 16 * n)
    (hb : n < 2048) (l : S16.Idx) :
    View.readAt (Elt F) B.view (Rect.unit (s := S32896) off S16.size h).toLoadRect f l = x (16 * n + (l 0).val) := by
  have hl : (l 0).val < 16 := (l 0).isLt
  have e : (((Rect.unit (s := S32896) off S16.size h).toLoadRect.idx l) 0).val = 16 * n + (l 0).val := by
    rw [← hn]; exact Rect.idx_unit_val (s := S32896) off S16.size h l 0
  refine (hx ((Rect.unit (s := S32896) off S16.size h).toLoadRect.idx l) ?_).trans (congrArg x e)
  rw [e]; omega

/-- The first test at sixteen places read. -/
theorem gt_test (B : Memref sig .scVector .vmem S32896 .f32) (f : Buf (Elt F) (B.view.loc (thr d L))) (x : Nat → F .f32)
    (hx : Holds d L B f x) (off : Fin 1 → Nat) (h : ∀ a, off a + S16.size a ≤ S32896.size a) (n : Nat) (hn : off 0 = 16 * n)
    (hb : n < 2048) (v : F .f32) (l : S16.Idx) :
    cmpf .ogt (shapeCast S16 (View.readAt (Elt F) B.view (Rect.unit (s := S32896) off S16.size h).toLoadRect f) shapeCasts_S16_S16)
      (fun _ => v) l = gtP x v (16 * n + (l 0).val) :=
  congrArg (fun y => FloatOps.cmpf .ogt y v)
    ((congrFun (shapeCast_self _ shapeCasts_S16_S16) l).trans (read_at d L B f x hx off h n hn hb l))

/-- The second test at sixteen places read. -/
theorem eq_test (B : Memref sig .scVector .vmem S32896 .f32) (f : Buf (Elt F) (B.view.loc (thr d L))) (x : Nat → F .f32)
    (hx : Holds d L B f x) (off : Fin 1 → Nat) (h : ∀ a, off a + S16.size a ≤ S32896.size a) (n : Nat) (hn : off 0 = 16 * n)
    (hb : n < 2048) (v : F .f32) (lab w : BitVec 32) (hw : w = BitVec.ofNat 32 (16 * n)) (l : S16.Idx) :
    andi (cmpf .oeq (shapeCast S16 (View.readAt (Elt F) B.view (Rect.unit (s := S32896) off S16.size h).toLoadRect f) shapeCasts_S16_S16)
        (fun _ => v))
      (cmpi .slt (addi (fun l => BitVec.ofNat 32 (l 0).val) (broadcast S16 w)) (fun _ => lab)) l = eqP x v lab (16 * n + (l 0).val) := by
  have e1 := (congrFun (shapeCast_self (View.readAt (Elt F) B.view (Rect.unit (s := S32896) off S16.size h).toLoadRect f) shapeCasts_S16_S16) l).trans
    (read_at d L B f x hx off h n hn hb l)
  have e2 : BitVec.ofNat 32 (l 0).val + w = BitVec.ofNat 32 (16 * n + (l 0).val) := by
    rw [hw, ← BitVec.ofNat_add, Nat.add_comm]
  show IntOp.andi (FloatOps.cmpf .oeq (shapeCast S16 _ shapeCasts_S16_S16 l) v) (IntOp.cmpi .slt (BitVec.ofNat 32 (l 0).val + w) lab) = _
  rw [e2]
  exact congrArg (fun y => IntOp.andi (FloatOps.cmpf .oeq y v) (IntOp.cmpi .slt (BitVec.ofNat 32 (16 * n + (l 0).val)) lab)) e1

/-- The offset of read `r` of trip `k`. -/
theorem off5_at (k : Fin k0_t1_loop.trips) (r : Nat) (hr : r < 8) : k0_off5 k (BitVec.ofNat 32 r) 0 = 16 * (8 * k.val + r) := by
  have hk : k.val < 256 := k.isLt
  exact toNat_base k.val r hk hr

/-- The invariant of the first pass: the buffer as it was, and the vector after `8 k` reads. -/
def gtInv (B : Memref sig .scVector .vmem S32896 .f32) (f : Buf (Elt F) (B.view.loc (thr d L))) (x : Nat → F .f32) (v : F .f32)
    (k : Nat) (acc : IVec S16 32) : sProp 𝕄 :=
  iprop((B.view.loc (thr d L) ↦{fullShare} f) ∗ ⌜acc = laneAcc (gtP x v) (8 * k)⌝)

set_option maxHeartbeats 1000000 in
/-- A trip of the first pass keeps its invariant. -/
theorem gt_region (f : Buf (Elt F) (arg5.view.loc (thr d L))) (x : Nat → F .f32) (v : F .f32) (hx : Holds d L arg5 f x)
    (v10 v11 : IVec S16 32) (v41 : FVec F S16 .f32) (h0 : v10 = fun _ => 0#32) (h1 : v11 = fun _ => 1#32) (hv : v41 = fun _ => v)
    (k : Fin k0_t1_loop.trips) (acc : IVec S16 32) :
    gtInv d L arg5 f x v k.val acc
      ⊢ wp frame (wpE (defs₀ (F := F)) 𝒱₀ (thr d L) none) Set.univ
          (k0_t1_body L arg2 harg2 arg3 harg3 arg4 harg4 arg5 harg5 arg6 harg6 arg7 harg7 arg8 harg8 arg9 arg10 r0 r1 v10 v11 v41 0#32 1#32 k acc)
          fun acc' => gtInv d L arg5 f x v (k.val + 1) acc' := by
  unfold gtInv k0_t1_body
  iintro ⟨HB, %hacc⟩
  sl_exec
  sl_step
  isplitl [HB]; · iexact HB
  ipureintro
  sl_unfold_run_names
  have hk : k.val < 256 := k.isLt
  subst hv
  exact laneAcc_trip (gtP x v) k.val acc v11 v10 _ _ _ _ _ _ _ _ hacc h1 h0
    (gt_test d L arg5 f x hx _ _ _ (off5_at k 0 (by omega)) (by omega) v)
    (gt_test d L arg5 f x hx _ _ _ (off5_at k 1 (by omega)) (by omega) v)
    (gt_test d L arg5 f x hx _ _ _ (off5_at k 2 (by omega)) (by omega) v)
    (gt_test d L arg5 f x hx _ _ _ (off5_at k 3 (by omega)) (by omega) v)
    (gt_test d L arg5 f x hx _ _ _ (off5_at k 4 (by omega)) (by omega) v)
    (gt_test d L arg5 f x hx _ _ _ (off5_at k 5 (by omega)) (by omega) v)
    (gt_test d L arg5 f x hx _ _ _ (off5_at k 6 (by omega)) (by omega) v)
    (gt_test d L arg5 f x hx _ _ _ (off5_at k 7 (by omega)) (by omega) v)

/-! ## The lanes' sum -/

/-- The running sums end, in the last lane, at the count over the columns read. -/
theorem scan_last (p : Nat → BitVec 1) (n : Nat) (v : IVec S16 32) (hv : v = laneAcc p n) :
    extractAt ![15] (scan .sum v) inpos_S16_p15 = BitVec.ofNat 32 (cnt p (16 * n)) :=
  (show _ = _ from rfl).trans (sum_laneAcc p n v hv)

/-! ## The second pass -/

/-- The offset of read `r` of trip `k`. -/
theorem off6_at (lab s : BitVec 32) (hl : lab.toNat < 32768) (k : Fin (k0_t2_loop lab s).trips) (r : Nat) (hr : r < 8) :
    k0_off6 lab s k (BitVec.ofNat 32 r) 0 = 16 * (8 * k.val + r) := by
  have hk : k.val < 256 := lt_of_lt_of_le (lt_of_lt_of_eq k.isLt (trips_eqBound s lab hl)) (eqN_le s lab hl)
  exact toNat_base k.val r hk hr

/-- What the kernel assumes of a row's label and first count holds for a label in range. -/
theorem chk2_of (lab s : BitVec 32) (hl : lab.toNat < 32768) : k0_chk2 lab s := by
  refine ⟨ok_eqBound s lab hl, fun k r a => ?_, Scf.rem_ok _ _, fun k => (Scf.rem_no_trip _ _ k).elim⟩
  have hk : k.val < 256 := lt_of_lt_of_le (lt_of_lt_of_eq k.isLt (trips_eqBound s lab hl)) (eqN_le s lab hl)
  have ha : a = 0 := Subsingleton.elim _ _
  subst ha
  rw [off6_at lab s hl k r.val r.isLt]
  have := r.isLt
  show _ + 16 ≤ 32896
  omega

/-- The invariant of the second pass. -/
def eqInv (B : Memref sig .scVector .vmem S32896 .f32) (f : Buf (Elt F) (B.view.loc (thr d L))) (x : Nat → F .f32) (v : F .f32)
    (lab : BitVec 32) (k : Nat) (acc : IVec S16 32) : sProp 𝕄 :=
  iprop((B.view.loc (thr d L) ↦{fullShare} f) ∗ ⌜acc = laneAcc (eqP x v lab) (8 * k)⌝)

set_option maxHeartbeats 1000000 in
/-- A trip of the second pass keeps its invariant. -/
theorem eq_region (f : Buf (Elt F) (arg5.view.loc (thr d L))) (x : Nat → F .f32) (v : F .f32) (hx : Holds d L arg5 f x)
    (v9 v10 v11 v33 : IVec S16 32) (v41 : FVec F S16 .f32) (h9 : v9 = fun l => BitVec.ofNat 32 (l 0).val) (h0 : v10 = fun _ => 0#32)
    (h1 : v11 = fun _ => 1#32) (hv : v41 = fun _ => v) (lab s : BitVec 32) (hlab : lab.toNat < 32768) (h33 : v33 = fun _ => lab)
    (hc : k0_chk2 lab s) (k : Fin (k0_t2_loop lab s).trips) (acc : IVec S16 32) :
    eqInv d L arg5 f x v lab k.val acc
      ⊢ wp frame (wpE (defs₀ (F := F)) 𝒱₀ (thr d L) none) Set.univ
          (k0_t2_body L arg2 harg2 arg3 harg3 arg4 harg4 arg5 harg5 arg6 harg6 arg7 harg7 arg8 harg8 arg9 arg10 r0 r1 v9 v10 v11 lab v33 v41 s hc 0#32 1#32 k acc)
          fun acc' => eqInv d L arg5 f x v lab (k.val + 1) acc' := by
  unfold eqInv k0_t2_body
  iintro ⟨HB, %hacc⟩
  sl_exec
  sl_step
  isplitl [HB]; · iexact HB
  ipureintro
  have hk : k.val < 256 := lt_of_lt_of_le (lt_of_lt_of_eq k.isLt (trips_eqBound s lab hlab)) (eqN_le s lab hlab)
  sl_unfold_run_names
  subst h9 h33 hv
  exact laneAcc_trip (eqP x v lab) k.val acc v11 v10 _ _ _ _ _ _ _ _ hacc h1 h0
    (eq_test d L arg5 f x hx _ _ _ (off6_at lab s hlab k 0 (by omega)) (by omega) v lab _ (base_eq k.val 0))
    (eq_test d L arg5 f x hx _ _ _ (off6_at lab s hlab k 1 (by omega)) (by omega) v lab _ (base_eq k.val 1))
    (eq_test d L arg5 f x hx _ _ _ (off6_at lab s hlab k 2 (by omega)) (by omega) v lab _ (base_eq k.val 2))
    (eq_test d L arg5 f x hx _ _ _ (off6_at lab s hlab k 3 (by omega)) (by omega) v lab _ (base_eq k.val 3))
    (eq_test d L arg5 f x hx _ _ _ (off6_at lab s hlab k 4 (by omega)) (by omega) v lab _ (base_eq k.val 4))
    (eq_test d L arg5 f x hx _ _ _ (off6_at lab s hlab k 5 (by omega)) (by omega) v lab _ (base_eq k.val 5))
    (eq_test d L arg5 f x hx _ _ _ (off6_at lab s hlab k 6 (by omega)) (by omega) v lab _ (base_eq k.val 6))
    (eq_test d L arg5 f x hx _ _ _ (off6_at lab s hlab k 7 (by omega)) (by omega) v lab _ (base_eq k.val 7))

/-- Before a pass the vector is zero. -/
theorem gtInv_zero (f : Buf (Elt F) (arg5.view.loc (thr d L))) (x : Nat → F .f32) (v : F .f32) (v10 : IVec S16 32)
    (h0 : v10 = fun _ => 0#32) : (arg5.view.loc (thr d L) ↦{fullShare} f : sProp 𝕄) ⊢ gtInv d L arg5 f x v 0 v10 := by
  unfold gtInv
  iintro HB
  isplitl [HB]; · iexact HB
  ipureintro
  rw [h0]; exact (laneAcc_zero _).symm

/-- Before a pass the vector is zero. -/
theorem eqInv_zero (f : Buf (Elt F) (arg5.view.loc (thr d L))) (x : Nat → F .f32) (v : F .f32) (lab : BitVec 32) (v10 : IVec S16 32)
    (h0 : v10 = fun _ => 0#32) : (arg5.view.loc (thr d L) ↦{fullShare} f : sProp 𝕄) ⊢ eqInv d L arg5 f x v lab 0 v10 := by
  unfold eqInv
  iintro HB
  isplitl [HB]; · iexact HB
  ipureintro
  rw [h0]; exact (laneAcc_zero _).symm

end Cert.KernelIdeal.Row
-- ==== Proof.Fetch.lean ====
/-
  What the copies bring to a tile: the labels, the four rows, and the number under the label — and what the four rows
  add up to.
-/
module

public import proofs.«01_k».proof.Proof.Row
public import Idealize.ShloMosaic.Lib.WritesUnit
public import Idealize.ShloMosaic.Lib.CellWrites

@[expose] public section

noncomputable section

namespace Cert.KernelIdeal.Fetch

open Cert.KernelIdeal Cert.KernelIdeal.Gen Cert.KernelIdeal.Count Cert.KernelIdeal.Row
open Idealize.ShloMosaic

variable {F : FTy → Type} [FloatOps F]

/-! ## The numbers of a tile -/

/-- The number of the tile, which is the number of its row of the output. -/
def wid (L : grid0.Coords) : Nat := 2 * (L 1).val + (L 0).val

theorem wid_lt (L : grid0.Coords) : wid L < 32 := by
  have h0 : (L 0).val < 2 := (L 0).isLt
  have h1 : (L 1).val < 16 := (L 1).isLt
  unfold wid; omega

theorem word_add (a b : Nat) : Scalar.addi (BitVec.ofNat 32 a) (BitVec.ofNat 32 b) = BitVec.ofNat 32 (a + b) :=
  (BitVec.ofNat_add a b).symm

theorem word_mul (a b : Nat) : Scalar.muli (BitVec.ofNat 32 a) (BitVec.ofNat 32 b) = BitVec.ofNat 32 (a * b) :=
  (BitVec.ofNat_mul a b).symm

theorem word_wid (L : grid0.Coords) :
    Scalar.addi (Scalar.muli (BitVec.ofNat 32 (L 1).val) 2#32) (BitVec.ofNat 32 (L 0).val) = BitVec.ofNat 32 (wid L) := by
  rw [show (2#32) = BitVec.ofNat 32 2 from rfl, word_mul, word_add]
  unfold wid; rw [Nat.mul_comm]

theorem toNat_word (a : Nat) (h : a < 4294967296) : (BitVec.ofNat 32 a).toNat = a := by
  rw [BitVec.toNat_ofNat]; exact Nat.mod_eq_of_lt h

/-- The word of row `a + b` of the tile's four. -/
theorem toNat_row (L : grid0.Coords) (a b : Nat) (ha : a < 4) (hb : b < 4) :
    (Scalar.addi (Scalar.addi (Scalar.muli (Scalar.addi (Scalar.muli (BitVec.ofNat 32 (L 1).val) 2#32) (BitVec.ofNat 32 (L 0).val)) 4#32)
      (BitVec.ofNat 32 a)) (BitVec.ofNat 32 b)).toNat = 4 * wid L + a + b := by
  have := wid_lt L
  rw [word_wid, show (4#32) = BitVec.ofNat 32 4 from rfl, word_mul, word_add, word_add, toNat_word _ (by omega)]
  omega

theorem toNat_row0 (L : grid0.Coords) (a : Nat) (ha : a < 4) :
    (Scalar.addi (Scalar.muli (Scalar.addi (Scalar.muli (BitVec.ofNat 32 (L 1).val) 2#32) (BitVec.ofNat 32 (L 0).val)) 4#32)
      (BitVec.ofNat 32 a)).toNat = 4 * wid L + a := by
  have := wid_lt L
  rw [word_wid, show (4#32) = BitVec.ofNat 32 4 from rfl, word_mul, word_add, toNat_word _ (by omega)]
  omega

theorem toNat_row1 (L : grid0.Coords) :
    (Scalar.muli (Scalar.addi (Scalar.muli (BitVec.ofNat 32 (L 1).val) 2#32) (BitVec.ofNat 32 (L 0).val)) 4#32).toNat = 4 * wid L := by
  have := wid_lt L
  rw [word_wid, show (4#32) = BitVec.ofNat 32 4 from rfl, word_mul, toNat_word _ (by omega)]
  omega

/-! ## The inputs by number -/

/-- The place of row `r` and column `j` (taken round when out of range, which no use is). -/
def at2 (r j : Nat) : S128x32768.Idx :=
  fun | 0 => ⟨r % 128, Nat.mod_lt _ (by decide)⟩ | 1 => ⟨j % 32768, Nat.mod_lt _ (by decide)⟩ | ⟨_ + 2, h⟩ => absurd h (Nat.not_lt.2 (Nat.le_add_left _ _))

/-- The place of row `r` among the labels. -/
def at1 (r : Nat) : S128.Idx :=
  fun | 0 => ⟨r % 128, Nat.mod_lt _ (by decide)⟩ | ⟨_ + 1, h⟩ => absurd h (Nat.not_lt.2 (Nat.le_add_left _ _))

/-- Row `r` of the numbers. -/
def rowOf (P : S128x32768.Idx → F .f32) (r : Nat) (j : Nat) : F .f32 := P (at2 r j)

/-- The label of row `r`. -/
def labOf (Lb : S128.Idx → BitVec 32) (r : Nat) : BitVec 32 := Lb (at1 r)

/-- The number a row is compared with: the one under its label, added to zero. -/
def valOf (P : S128x32768.Idx → F .f32) (Lb : S128.Idx → BitVec 32) (r : Nat) : F .f32 :=
  FloatOps.addf (FloatOps.ofBits .f32 0x00000000#32) (rowOf P r (labOf Lb r).toNat)

/-- The hit of row `r`, as the word the kernel adds up. -/
def hitOf (P : S128x32768.Idx → F .f32) (Lb : S128.Idx → BitVec 32) (r : Nat) : BitVec 32 :=
  hit (rowOf P r) (valOf P Lb r) (labOf Lb r).toNat

/-- The hits of the four rows of tile `w`, added up as words. -/
def sum4 (P : S128x32768.Idx → F .f32) (Lb : S128.Idx → BitVec 32) (w : Nat) : BitVec 32 :=
  Scalar.addi (Scalar.addi (Scalar.addi (Scalar.addi 0#32 (hitOf P Lb (4 * w))) (hitOf P Lb (4 * w + 1))) (hitOf P Lb (4 * w + 2)))
    (hitOf P Lb (4 * w + 3))

/-- What tile `w` writes in all the places of its row of the output. -/
def resOf (P : S128x32768.Idx → F .f32) (Lb : S128.Idx → BitVec 32) (w : Nat) : F .f32 :=
  FloatOps.addf (FloatOps.ofBits .f32 0x00000000#32) (Scalar.sitofp .f32 (sum4 P Lb w))

/-! ## What the loads read -/

/-- The label the kernel takes: lane 0 of sixteen read at place `r` of a buffer the labels were copied to. -/
theorem lab_read (B : Memref sig .scVector .vmem S144 .i32) (f : B.view.ty.Contents (Elt F)) (Lb : S128.Idx → BitVec 32)
    (inb : ∀ a, (![0] : Fin 1 → Nat) a + S128.size a ≤ S144.size a) (off : Fin 1 → Nat) (h : ∀ a, off a + S16.size a ≤ S144.size a)
    (r : Nat) (hr : r < 128) (hoff : off 0 = r) :
    extractAt ![0] (k0_pay43 (F := F) (View.readAt (Elt F) B.view (Rect.unit (s := S144) off S16.size h).toLoadRect
      (B.view.writes (Elt F) f [⟨Rect.unit (s := S144) ![0] S128.size inb, Lb⟩]))) inpos_S1_p0 = labOf Lb r := by
  have key : ∀ l : S16.Idx, (l 0).val = 0 → View.readAt (Elt F) B.view (Rect.unit (s := S144) off S16.size h).toLoadRect
      (B.view.writes (Elt F) f [⟨Rect.unit (s := S144) ![0] S128.size inb, Lb⟩]) l = labOf Lb r := by
    intro l hl
    have e : (((Rect.unit (s := S144) off S16.size h).toLoadRect.idx l) 0).val = r := by
      have := Rect.idx_unit_val (s := S144) off S16.size h l 0
      rw [this, hl, hoff]; rfl
    exact View.read_writes_cons_unit_of_mem B.view f inb Lb [] ((Rect.unit (s := S144) off S16.size h).toLoadRect.idx l) (at1 r) rfl
      fun a => by
        have ha : a = 0 := Subsingleton.elim _ _
        subst ha
        show _ = 0 + r % 128
        rw [Nat.mod_eq_of_lt hr, Nat.zero_add]; exact e
  exact (congrFun (shapeCast_self _ shapeCasts_S16_S16) _).trans (key _ rfl)

/-- A row buffer after the copy of row `r`. -/
theorem holds_writes (d : Dev nD) (L : grid0.Coords) (B : Memref sig .scVector .vmem S32896 .f32) (f : Buf (Elt F) (B.view.loc (thr d L)))
    (w : S32768.Idx → F .f32) (inb : ∀ a, (![0] : Fin 1 → Nat) a + S32768.size a ≤ S32896.size a) (x : Nat → F .f32)
    (hw : ∀ j, w j = x (j 0).val) (l : List (View.Piece (Elt F) S32896 .f32)) :
    Holds d L B (B.view.writes (Elt F) f (⟨Rect.unit (s := S32896) ![0] S32768.size inb, w⟩ :: l)) x := by
  intro j hj
  let j' : S32768.Idx := fun | 0 => ⟨(j 0).val, hj⟩ | ⟨_ + 1, h⟩ => absurd h (Nat.not_lt.2 (Nat.le_add_left _ _))
  refine (View.read_writes_cons_unit_of_mem B.view f inb w l j j' rfl fun a => ?_).trans (hw j')
  have ha : a = 0 := Subsingleton.elim _ _
  subst ha
  exact (Nat.zero_add _).symm

/-- What a copy of row `r` carries. -/
theorem row_read (P : main_arg0_scv.ty.Contents (Elt F)) (off : Fin 2 → Nat) (h : ∀ a, off a + S1x32768.size a ≤ S128x32768.size a)
    (r : Nat) (h0 : off 0 = r) (h1 : off 1 = 0) (j : S32768.Idx) :
    View.read (Elt F) (((Memref.whole main_arg0_scv : Memref sig .scVector .hbm S128x32768 .f32).slice (Rect.unit (s := S128x32768) off S1x32768.size h)
      (fun _ => rfl)).squeeze S32768 squeezes_S1x32768_S32768).view P j = rowOf P r (j 0).val := by
  have hr : r < 128 := by have := h 0; rw [h0] at this; exact this
  refine (View.read_apply _ _).trans ((cast_eq _ _).trans (congrArg P ?_))
  have e : Shape.reshapeEquiv (Shape.Squeezes.numel_eq squeezes_S1x32768_S32768) j = (Fin.cons ⟨0, Nat.one_pos⟩ j : S1x32768.Idx) :=
    Shape.reshapeEquiv_cons_one (d := ![32768]) _ j
  show (Rect.unit (s := S128x32768) off S1x32768.size h).emb (Shape.reshapeEquiv _ j) = at2 r (j 0).val
  rw [e]
  funext a
  apply Fin.ext
  rw [Rect.emb_apply]
  match a with
  | 0 => show off 0 + 1 * 0 = r % 128; rw [Nat.mod_eq_of_lt hr, h0]; rfl
  | 1 => show off 1 + 1 * (j 0).val = (j 0).val % 32768; rw [Nat.mod_eq_of_lt (show (j 0).val < 32768 from (j 0).isLt), h1, Nat.one_mul, Nat.zero_add]

/-- The number a row is compared with, as the kernel reads it. -/
theorem val_read (d : Dev nD) (L : grid0.Coords) (B : Memref sig .scVector .vmem S32896 .f32) (f : Buf (Elt F) (B.view.loc (thr d L)))
    (x : Nat → F .f32) (hx : Holds d L B f x) (off : Fin 1 → Nat) (h : ∀ a, off a + S16.size a ≤ S32896.size a) (n : Nat) (hn : off 0 = n)
    (hb : n < 32768) :
    k0_pay45 (View.readAt (Elt F) B.view (Rect.unit (s := S32896) off S16.size h).toLoadRect f)
      = fun _ => FloatOps.addf (FloatOps.ofBits .f32 0x00000000#32) (x n) := by
  have key : ∀ l : S16.Idx, (l 0).val = 0 → View.readAt (Elt F) B.view (Rect.unit (s := S32896) off S16.size h).toLoadRect f l = x n := by
    intro l hl
    have e : (((Rect.unit (s := S32896) off S16.size h).toLoadRect.idx l) 0).val = n := by
      have := Rect.idx_unit_val (s := S32896) off S16.size h l 0
      rw [this, hl, hn]; rfl
    refine (hx ((Rect.unit (s := S32896) off S16.size h).toLoadRect.idx l) ?_).trans (congrArg x e)
    rw [e]; exact hb
  funext l
  exact congrArg (FloatOps.addf (FloatOps.ofBits .f32 0x00000000#32)) ((congrFun (shapeCast_self _ shapeCasts_S16_S16) _).trans (key _ rfl))

/-- The label in all lanes. -/
theorem lab_splat (v10 : IVec S16 32) (h0 : v10 = fun _ => 0#32) (v28 : Vec F S16 .i32) :
    k0_pay44 (F := F) v10 v28 = fun _ => extractAt ![0] (k0_pay43 (F := F) v28) inpos_S1_p0 := by
  subst h0; funext l
  exact BitVec.zero_add _

/-- Sixteen places from a label on are in a row buffer. -/
theorem chk1_of (lab : BitVec 32) (hl : lab.toNat < 32768) : k0_chk1 lab := by
  intro a
  have ha : a = 0 := Subsingleton.elim _ _
  subst ha
  show lab.toNat + 16 ≤ 32896
  omega

/-! ## What the tile makes of it -/

/-- The hit of a row, from the vectors its two passes leave. -/
theorem row_hit (P : S128x32768.Idx → F .f32) (Lb : S128.Idx → BitVec 32) (r : Nat) (lab : BitVec 32) (acc acc' : IVec S16 32)
    (hlab : lab = labOf Lb r) (h : lab.toNat < 32768) (ha : acc = laneAcc (gtP (rowOf P r) (valOf P Lb r)) 2048)
    (ha' : acc' = laneAcc (eqP (rowOf P r) (valOf P Lb r) lab) (8 * eqN (extractAt ![15] (scan .sum acc) inpos_S16_p15) lab)) :
    Scalar.select (Scalar.cmpi .slt (Scalar.addi (extractAt ![15] (scan .sum acc) inpos_S16_p15)
      (extractAt ![15] (scan .sum acc') inpos_S16_p15)) 5#32) 1#32 0#32 = hitOf P Lb r := by
  have e := (scan_last (gtP (rowOf P r) (valOf P Lb r)) 2048 acc ha).trans
    (congrArg (fun n => BitVec.ofNat 32 (cnt (gtP (rowOf P r) (valOf P Lb r)) n)) (show 16 * 2048 = 32768 by decide))
  refine (hit_eq (rowOf P r) (valOf P Lb r) lab _ _ h e (scan_last _ _ _ ha')).trans ?_
  rw [hlab]; rfl

/-- The sixteen numbers a store writes. -/
theorem pay_eq (v221 v249 : BitVec 32) (v277 : IVec S16 32) :
    k0_pay75 (F := F) v221 v249 v277 = fun _ => FloatOps.addf (FloatOps.ofBits .f32 0x00000000#32)
      (Scalar.sitofp .f32 (Scalar.addi v221 (Scalar.select (Scalar.cmpi .slt (Scalar.addi v249
        (extractAt ![15] (scan .sum v277) inpos_S16_p15)) 5#32) 1#32 0#32))) :=
  (shapeCast_self (k0_pay74 (F := F) v221 v249 v277) shapeCasts_S16_S16).trans rfl

/-- A buffer of 128 places after eight stores of sixteen, all of one number. -/
theorem fill_read (B : Memref sig .scVector .vmem S128 .f32) (f : B.view.ty.Contents (Elt F)) (y : F .f32)
    (p : S16.Idx → F .f32) (hp : p = fun _ => y) (j : S128.Idx) :
    View.read (Elt F) B.view (B.view.writes (Elt F) f [
      ⟨Rect.unit (s := S128) ![112] S16.size inb_S128_S16_112, p⟩, ⟨Rect.unit (s := S128) ![96] S16.size inb_S128_S16_96, p⟩,
      ⟨Rect.unit (s := S128) ![80] S16.size inb_S128_S16_80, p⟩, ⟨Rect.unit (s := S128) ![64] S16.size inb_S128_S16_64, p⟩,
      ⟨Rect.unit (s := S128) ![48] S16.size inb_S128_S16_48, p⟩, ⟨Rect.unit (s := S128) ![32] S16.size inb_S128_S16_32, p⟩,
      ⟨Rect.unit (s := S128) ![16] S16.size inb_S128_S16_16, p⟩, ⟨Rect.unit (s := S128) ![0] S16.size inb_S128_S16_0, p⟩]) j = y := by
  subst hp
  have hj : (j 0).val < 128 := (j 0).isLt
  have key : ∀ (o : Nat) (h : ∀ a, (![o] : Fin 1 → Nat) a + S16.size a ≤ S128.size a), o ≤ (j 0).val → (j 0).val < o + 16 →
      j ∈ (Rect.unit (s := S128) ![o] S16.size h).set := fun o h h1 h2 => Rect.mem_set_unit.mpr fun a => by
    have ha : a = 0 := Subsingleton.elim _ _
    subst ha
    exact ⟨h1, h2⟩
  refine View.read_writes_apply_of_forall_of_mem B.view f (fun z => z = y) j _ ?_ ?_
  · intro q hq x
    simp only [List.mem_cons, List.not_mem_nil, or_false] at hq
    rcases hq with rfl | rfl | rfl | rfl | rfl | rfl | rfl | rfl <;> rfl
  · simp only [List.exists_mem_cons_iff, List.not_mem_nil, false_and, exists_false, or_false]
    by_cases h7 : 112 ≤ (j 0).val; · exact .inl (key 112 _ h7 (by omega))
    refine .inr ?_
    by_cases h6 : 96 ≤ (j 0).val; · exact .inl (key 96 _ h6 (by omega))
    refine .inr ?_
    by_cases h5 : 80 ≤ (j 0).val; · exact .inl (key 80 _ h5 (by omega))
    refine .inr ?_
    by_cases h4 : 64 ≤ (j 0).val; · exact .inl (key 64 _ h4 (by omega))
    refine .inr ?_
    by_cases h3 : 48 ≤ (j 0).val; · exact .inl (key 48 _ h3 (by omega))
    refine .inr ?_
    by_cases h2 : 32 ≤ (j 0).val; · exact .inl (key 32 _ h2 (by omega))
    refine .inr ?_
    by_cases h1 : 16 ≤ (j 0).val; · exact .inl (key 16 _ h1 (by omega))
    exact .inr (key 0 _ (Nat.zero_le _) (by omega))

end Cert.KernelIdeal.Fetch
-- ==== Proof.Tile.lean ====
/-
  The task of one tile: the kernel's text run from its share of the two inputs, its row of the output and its own
  scratch buffers and semaphores, to the same with the row of the output at the number of hits of its four rows.
-/
module

public import proofs.«01_k».proof.Proof.Fetch

@[expose] public section

noncomputable section

namespace Cert.KernelIdeal.Tile

open Cert.KernelIdeal Cert.KernelIdeal.Gen Cert.KernelIdeal.Count Cert.KernelIdeal.Row Cert.KernelIdeal.Fetch
  Cert.KernelIdeal.Fetch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

variable (m : (ℓ : Loc nD τ sig) → Buf (Elt F) ℓ) (ρ : Dev nD → PrngReg)

abbrev pLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0

local notation "pV" => (Memref.whole Cert.KernelIdeal.main_arg0_scv : Memref Cert.KernelIdeal.sig Kind.scVector Space.hbm Cert.KernelIdeal.S128x32768 EltTy.f32)
local notation "lV" => (Memref.whole Cert.KernelIdeal.main_arg1_scv : Memref Cert.KernelIdeal.sig Kind.scVector Space.hbm Cert.KernelIdeal.S128 EltTy.i32)
local notation "oV" => (Memref.whole Cert.KernelIdeal.main_v0_scv : Memref Cert.KernelIdeal.sig Kind.scVector Space.hbm Cert.KernelIdeal.S32x128 EltTy.f32)
local notation "aV" => (Memref.whole Cert.KernelIdeal.cc0_scratch0 : Memref Cert.KernelIdeal.sig Kind.scVector Space.vmem Cert.KernelIdeal.S32896 EltTy.f32)
local notation "bV" => (Memref.whole Cert.KernelIdeal.cc0_scratch1 : Memref Cert.KernelIdeal.sig Kind.scVector Space.vmem Cert.KernelIdeal.S32896 EltTy.f32)
local notation "nV" => (Memref.whole Cert.KernelIdeal.cc0_scratch2 : Memref Cert.KernelIdeal.sig Kind.scVector Space.vmem Cert.KernelIdeal.S144 EltTy.i32)
local notation "cV'" => (Memref.whole Cert.KernelIdeal.cc0_scratch3 : Memref Cert.KernelIdeal.sig Kind.scVector Space.vmem Cert.KernelIdeal.S128 EltTy.f32)

variable [FloatOps F]

section Tile

variable (d : Dev nD) (L : grid0.Coords)

/-- The vector of the lanes' numbers. -/
theorem iota_lane : (iota .scVector S16 32 [0] iota_S16_d0_w32_scVector : IVec S16 32) = fun l => BitVec.ofNat 32 (l 0).val := by
  funext l
  show BitVec.ofNat 32 (0 * 16 + (l 0).val) = _
  rw [Nat.zero_mul, Nat.zero_add]

/-- The second pass's trips, counted. -/
theorem trips_laneAcc (p : Nat → BitVec 1) (s lab : BitVec 32) (h : lab.toNat < 32768) :
    laneAcc p (8 * Scf.trips (k0_t2_loop lab s).lb (k0_t2_loop lab s).ub (k0_t2_loop lab s).st) = laneAcc p (8 * eqN s lab) :=
  congrArg (fun n => laneAcc p (8 * n)) (trips_eqBound s lab h)

/-- The tile's row of the output, as the task addresses it. -/
abbrev oRowK (L : grid0.Coords) : Memref sig .scVector .hbm S128 .f32 :=
  ((oV).slice (Rect.unit (s := S32x128) (k0_off26 L) S1x128.size (k0_off26_inb L)) (fun _ => rfl)).squeeze S128 squeezes_S1x128_S128

/-- What the proof asks of the launch memory: every label names a column. -/
def PreOK : Prop := ∀ (d : Dev nD) (j : S128.Idx), BitVec.toNat (w := 32) (m (lLoc d) j) < 32768

abbrev semAt (k : DmaSem sig) : GSem nD τ sig := (thr d L, .dma k)

set_option maxHeartbeats 4000000 in
theorem tile_run (hpre : PreOK m) (q : PosShare TreeShare) (O : CellTallies nD τ sig (HIx 1)) (W : Waits sig (HIx 1))
    (fa : Buf (Elt F) ((thr d L).loc cc0_scratch0)) (fb : Buf (Elt F) ((thr d L).loc cc0_scratch1))
    (fn : Buf (Elt F) ((thr d L).loc cc0_scratch2)) (fc : Buf (Elt F) ((thr d L).loc cc0_scratch3)) (fo : Buf (Elt F) (oLoc d)) :
    iprop((Transfers.MayWaits (thr d L) (default : HIx 1) O : sProp 𝕄)
        ∗ ((pV).view.loc (thr d L) ↦{q} m (pLoc d)) ∗ ((lV).view.loc (thr d L) ↦{q} m (lLoc d))
        ∗ ((oRowK L).view.loc (thr d L) ↦[(oRowK L).view.set]{fullShare} fo)
        ∗ ((aV).view.loc (thr d L) ↦{fullShare} fa) ∗ ((bV).view.loc (thr d L) ↦{fullShare} fb)
        ∗ ((nV).view.loc (thr d L) ↦{fullShare} fn) ∗ ((cV').view.loc (thr d L) ↦{fullShare} fc)
        ∗ semVal (semAt d L cc0_scratch4.sem) 0 ∗ semVal (semAt d L cc0_scratch5.sem) 0
        ∗ semVal (semAt d L cc0_scoped0.sem) 0 ∗ semVal (semAt d L cc0_scoped1.sem) 0
        ∗ owes (thr d L) O W)
      ⊢ wp frame (wpE (defs₀ (F := F)) 𝒱₀ (thr d L) none) Set.univ
          (cc0__count_kernel L pV (Memref.isWhole_whole _) lV (Memref.isWhole_whole _) oV (Memref.isWhole_whole _)
            aV (Memref.isWhole_whole _) bV (Memref.isWhole_whole _) nV (Memref.isWhole_whole _) cV' (Memref.isWhole_whole _)
            cc0_scratch4 cc0_scratch5 cc0_scoped0 cc0_scoped1)
          fun _ => iprop(∃ fo' : Buf (Elt F) (oLoc d),
            ⌜∀ j : S128.Idx, View.read (Elt F) (oRowK L).view fo' j = resOf (m (pLoc d)) (m (lLoc d)) (wid L)⌝
            ∗ ((pV).view.loc (thr d L) ↦{q} m (pLoc d)) ∗ ((lV).view.loc (thr d L) ↦{q} m (lLoc d))
            ∗ ((oRowK L).view.loc (thr d L) ↦[(oRowK L).view.set]{fullShare} fo')
            ∗ (∃ f, (aV).view.loc (thr d L) ↦{fullShare} f) ∗ (∃ f, (bV).view.loc (thr d L) ↦{fullShare} f)
            ∗ (∃ f, (nV).view.loc (thr d L) ↦{fullShare} f) ∗ (∃ f, (cV').view.loc (thr d L) ↦{fullShare} f)
            ∗ semVal (semAt d L cc0_scratch4.sem) 0 ∗ semVal (semAt d L cc0_scratch5.sem) 0
            ∗ semVal (semAt d L cc0_scoped0.sem) 0 ∗ semVal (semAt d L cc0_scoped1.sem) 0
            ∗ ∃ W', ⌜∀ p ∈ W', p ∈ W ∨ p.2 = none⌝ ∗ owes (thr d L) O W') := by
  rw [cc0__count_kernel_eq_skeleton]; unfold cc0__count_kernel_skel
  iintro ⟨Hmw, Hp, Hl, Ho, Ha, Hb, Hn, Hc, Hs4, Hs5, Hs0, Hs1, HO⟩
  have hw := wid_lt L
  have hlab : ∀ r, (labOf (m (lLoc d)) r).toNat < 32768 := fun r => hpre d _
  sl_exec
  have e31 : tile_run.sl.v31 m d L fn = labOf (m (lLoc d)) (4 * wid L) := by
    sl_unfold_run_names
    exact lab_read nV fn (m (lLoc d)) _ _ _ (4 * wid L) (by omega) (toNat_row0 L 0 (by decide))
  have hl0 : (tile_run.sl.v31 m d L fn).toNat < 32768 := e31 ▸ hlab (4 * wid L)
  sl_exec (disch := exact chk1_of _ hl0)
  have ha0 : Holds d L aV _ (rowOf (m (pLoc d)) (4 * wid L)) := holds_writes d L aV fa (tile_run.sl.dma0_1 m d L) inb_S32896_S32768_0 _
    (fun j => row_read (m (pLoc d)) (k0_off1 L) (k0_off1_inb L) (4 * wid L) (toNat_row1 L) rfl j) []
  have hv0 : tile_run.sl.r_1 m d L fa fn hl0 = fun _ => valOf (m (pLoc d)) (m (lLoc d)) (4 * wid L) := by
    sl_unfold_run_names
    exact val_read d L aV _ _ ha0 _ _ _ (congrArg BitVec.toNat e31) (hlab _)
  sl_for (gtInv d L aV _ (rowOf (m (pLoc d)) (4 * wid L)) (valOf (m (pLoc d)) (m (lLoc d)) (4 * wid L))) $$ [Hmw Hl Ho Ha Hn Hc Hs4 Hs5 Hs0 Hs1 HO Hp]
  case region =>
    intro k acc
    exact gt_region d L _ _ _ _ _ _ _ _ _ _ _ _ _ _ _ _ _ _ _ _ _ ha0 _ _ _ rfl rfl hv0 k acc
  isplitl [Ha]
  · iapply (gtInv_zero d L _ _ _ _ _ rfl) $$ Ha
  iintro %acc0 HI
  unfold gtInv
  icases HI with ⟨Ha, %hacc0⟩
  sl_exec (disch := exact chk2_of _ _ hl0)
  have hiota : (tile_run.sl.v9 : IVec S16 32) = fun l => BitVec.ofNat 32 (l 0).val := by
    sl_unfold_run_names
    exact iota_lane
  have hr0 : tile_run.sl.r m d L fn = fun _ => tile_run.sl.v31 m d L fn := by
    sl_unfold_run_names
    exact lab_splat _ rfl _
  sl_for (eqInv d L aV _ (rowOf (m (pLoc d)) (4 * wid L)) (valOf (m (pLoc d)) (m (lLoc d)) (4 * wid L)) (tile_run.sl.v31 m d L fn)) $$ [Hmw Hl Ho Ha Hn Hc Hs4 Hs5 Hs0 Hs1 HO Hp]
  case region =>
    intro k acc
    exact eq_region d L _ _ _ _ _ _ _ _ _ _ _ _ _ _ _ _ _ _ _ _ _ ha0 _ _ _ _ _ hiota rfl rfl hv0 _ _ hl0 hr0 _ k acc
  isplitl [Ha]
  · iapply (eqInv_zero d L _ _ _ _ _ _ rfl) $$ Ha
  iintro %acc1 HI
  unfold eqInv
  icases HI with ⟨Ha, %hacc1⟩
  sl_exec
  have e101 : tile_run.sl.v101 m d L fn = labOf (m (lLoc d)) (4 * wid L + 1) := by
    sl_unfold_run_names
    exact lab_read nV fn (m (lLoc d)) _ _ _ (4 * wid L + 1) (by omega) (toNat_row0 L 1 (by decide))
  have hl1 : (tile_run.sl.v101 m d L fn).toNat < 32768 := e101 ▸ hlab (4 * wid L + 1)
  sl_exec (disch := exact chk1_of _ hl1)
  have ha1 : Holds d L bV _ (rowOf (m (pLoc d)) (4 * wid L + 1)) := holds_writes d L bV fb (tile_run.sl.dma0_2 m d L) inb_S32896_S32768_0 _
    (fun j => row_read (m (pLoc d)) (k0_off2 L) (k0_off2_inb L) (4 * wid L + 1) (toNat_row L 0 1 (by decide) (by decide)) rfl j) []
  have hv1 : tile_run.sl.r_3 m d L fb fn hl1 = fun _ => valOf (m (pLoc d)) (m (lLoc d)) (4 * wid L + 1) := by
    sl_unfold_run_names
    exact val_read d L bV _ _ ha1 _ _ _ (congrArg BitVec.toNat e101) (hlab _)
  sl_for (gtInv d L bV _ (rowOf (m (pLoc d)) (4 * wid L + 1)) (valOf (m (pLoc d)) (m (lLoc d)) (4 * wid L + 1))) $$ [Hmw Hl Ho Hb Hn Hc Hs4 Hs5 Hs0 Hs1 HO Hp]
  case region =>
    intro k acc
    exact gt_region d L pV (Memref.isWhole_whole _) lV (Memref.isWhole_whole _) oV (Memref.isWhole_whole _)
            bV (Memref.isWhole_whole _) aV (Memref.isWhole_whole _) nV (Memref.isWhole_whole _) cV' (Memref.isWhole_whole _)
            cc0_scratch4 cc0_scratch5 cc0_scoped0 cc0_scoped1 _ _ _ ha1 _ _ _ rfl rfl hv1 k acc
  isplitl [Hb]
  · iapply (gtInv_zero d L _ _ _ _ _ rfl) $$ Hb
  iintro %acc2 HI
  unfold gtInv
  icases HI with ⟨Hb, %hacc2⟩
  sl_exec (disch := exact chk2_of _ _ hl1)
  have hr1 : tile_run.sl.r_2 m d L fn = fun _ => tile_run.sl.v101 m d L fn := by
    sl_unfold_run_names
    exact lab_splat _ rfl _
  sl_for (eqInv d L bV _ (rowOf (m (pLoc d)) (4 * wid L + 1)) (valOf (m (pLoc d)) (m (lLoc d)) (4 * wid L + 1)) (tile_run.sl.v101 m d L fn)) $$ [Hmw Hl Ho Hb Hn Hc Hs4 Hs5 Hs0 Hs1 HO Hp]
  case region =>
    intro k acc
    exact eq_region d L pV (Memref.isWhole_whole _) lV (Memref.isWhole_whole _) oV (Memref.isWhole_whole _)
            bV (Memref.isWhole_whole _) aV (Memref.isWhole_whole _) nV (Memref.isWhole_whole _) cV' (Memref.isWhole_whole _)
            cc0_scratch4 cc0_scratch5 cc0_scoped0 cc0_scoped1 _ _ _ ha1 _ _ _ _ _ hiota rfl rfl hv1 _ _ hl1 hr1 (chk2_of _ _ hl1) k acc
  isplitl [Hb]
  · iapply (eqInv_zero d L _ _ _ _ _ _ rfl) $$ Hb
  iintro %acc3 HI
  unfold eqInv
  icases HI with ⟨Hb, %hacc3⟩
  sl_exec
  have e171 : tile_run.sl.v171 m d L fn = labOf (m (lLoc d)) (4 * wid L + 2) := by
    sl_unfold_run_names
    exact lab_read nV fn (m (lLoc d)) _ _ _ (4 * wid L + 2) (by omega) (toNat_row0 L 2 (by decide))
  have hl2 : (tile_run.sl.v171 m d L fn).toNat < 32768 := e171 ▸ hlab (4 * wid L + 2)
  sl_exec (disch := exact chk1_of _ hl2)
  have ha2 : Holds d L aV _ (rowOf (m (pLoc d)) (4 * wid L + 2)) := holds_writes d L aV fa (tile_run.sl.dma0_3 m d L) inb_S32896_S32768_0 _
    (fun j => row_read (m (pLoc d)) (k0_off8 L 1#32) (k0_off8_inb L 1) (4 * wid L + 2) (toNat_row L 1 1 (by decide) (by decide)) rfl j)
    [⟨Rect.unit (s := S32896) ![0] S32768.size inb_S32896_S32768_0, tile_run.sl.dma0_1 m d L⟩]
  have hv2 : tile_run.sl.r_5 m d L fa fn hl2 = fun _ => valOf (m (pLoc d)) (m (lLoc d)) (4 * wid L + 2) := by
    sl_unfold_run_names
    exact val_read d L aV _ _ ha2 _ _ _ (congrArg BitVec.toNat e171) (hlab _)
  sl_for (gtInv d L aV _ (rowOf (m (pLoc d)) (4 * wid L + 2)) (valOf (m (pLoc d)) (m (lLoc d)) (4 * wid L + 2))) $$ [Hmw Hl Ho Ha Hn Hc Hs4 Hs5 Hs0 Hs1 HO Hp]
  case region =>
    intro k acc
    exact gt_region d L pV (Memref.isWhole_whole _) lV (Memref.isWhole_whole _) oV (Memref.isWhole_whole _)
            aV (Memref.isWhole_whole _) bV (Memref.isWhole_whole _) nV (Memref.isWhole_whole _) cV' (Memref.isWhole_whole _)
            cc0_scratch4 cc0_scratch5 cc0_scoped0 cc0_scoped1 _ _ _ ha2 _ _ _ rfl rfl hv2 k acc
  isplitl [Ha]
  · iapply (gtInv_zero d L _ _ _ _ _ rfl) $$ Ha
  iintro %acc4 HI
  unfold gtInv
  icases HI with ⟨Ha, %hacc4⟩
  sl_exec (disch := exact chk2_of _ _ hl2)
  have hr2 : tile_run.sl.r_4 m d L fn = fun _ => tile_run.sl.v171 m d L fn := by
    sl_unfold_run_names
    exact lab_splat _ rfl _
  sl_for (eqInv d L aV _ (rowOf (m (pLoc d)) (4 * wid L + 2)) (valOf (m (pLoc d)) (m (lLoc d)) (4 * wid L + 2)) (tile_run.sl.v171 m d L fn)) $$ [Hmw Hl Ho Ha Hn Hc Hs4 Hs5 Hs0 Hs1 HO Hp]
  case region =>
    intro k acc
    exact eq_region d L pV (Memref.isWhole_whole _) lV (Memref.isWhole_whole _) oV (Memref.isWhole_whole _)
            aV (Memref.isWhole_whole _) bV (Memref.isWhole_whole _) nV (Memref.isWhole_whole _) cV' (Memref.isWhole_whole _)
            cc0_scratch4 cc0_scratch5 cc0_scoped0 cc0_scoped1 _ _ _ ha2 _ _ _ _ _ hiota rfl rfl hv2 _ _ hl2 hr2 (chk2_of _ _ hl2) k acc
  isplitl [Ha]
  · iapply (eqInv_zero d L _ _ _ _ _ _ rfl) $$ Ha
  iintro %acc5 HI
  unfold eqInv
  icases HI with ⟨Ha, %hacc5⟩
  sl_exec
  have e234 : tile_run.sl.v234 m d L fn = labOf (m (lLoc d)) (4 * wid L + 3) := by
    sl_unfold_run_names
    exact lab_read nV fn (m (lLoc d)) _ _ _ (4 * wid L + 3) (by omega) (toNat_row0 L 3 (by decide))
  have hl3 : (tile_run.sl.v234 m d L fn).toNat < 32768 := e234 ▸ hlab (4 * wid L + 3)
  sl_exec (disch := exact chk1_of _ hl3)
  have ha3 : Holds d L bV _ (rowOf (m (pLoc d)) (4 * wid L + 3)) := holds_writes d L bV fb (tile_run.sl.dma0_4 m d L) inb_S32896_S32768_0 _
    (fun j => row_read (m (pLoc d)) (k0_off14 L 2#32) (k0_off14_inb L 1) (4 * wid L + 3) (toNat_row L 2 1 (by decide) (by decide)) rfl j)
    [⟨Rect.unit (s := S32896) ![0] S32768.size inb_S32896_S32768_0, tile_run.sl.dma0_2 m d L⟩]
  have hv3 : tile_run.sl.r_7 m d L fb fn hl3 = fun _ => valOf (m (pLoc d)) (m (lLoc d)) (4 * wid L + 3) := by
    sl_unfold_run_names
    exact val_read d L bV _ _ ha3 _ _ _ (congrArg BitVec.toNat e234) (hlab _)
  sl_for (gtInv d L bV _ (rowOf (m (pLoc d)) (4 * wid L + 3)) (valOf (m (pLoc d)) (m (lLoc d)) (4 * wid L + 3))) $$ [Hmw Hl Ho Ha Hb Hn Hc Hs4 Hs5 Hs0 Hs1 HO Hp]
  case region =>
    intro k acc
    exact gt_region d L pV (Memref.isWhole_whole _) lV (Memref.isWhole_whole _) oV (Memref.isWhole_whole _)
            bV (Memref.isWhole_whole _) aV (Memref.isWhole_whole _) nV (Memref.isWhole_whole _) cV' (Memref.isWhole_whole _)
            cc0_scratch4 cc0_scratch5 cc0_scoped0 cc0_scoped1 _ _ _ ha3 _ _ _ rfl rfl hv3 k acc
  isplitl [Hb]
  · iapply (gtInv_zero d L _ _ _ _ _ rfl) $$ Hb
  iintro %acc6 HI
  unfold gtInv
  icases HI with ⟨Hb, %hacc6⟩
  sl_exec (disch := exact chk2_of _ _ hl3)
  have hr3 : tile_run.sl.r_6 m d L fn = fun _ => tile_run.sl.v234 m d L fn := by
    sl_unfold_run_names
    exact lab_splat _ rfl _
  sl_for (eqInv d L bV _ (rowOf (m (pLoc d)) (4 * wid L + 3)) (valOf (m (pLoc d)) (m (lLoc d)) (4 * wid L + 3)) (tile_run.sl.v234 m d L fn)) $$ [Hmw Hl Ho Ha Hb Hn Hc Hs4 Hs5 Hs0 Hs1 HO Hp]
  case region =>
    intro k acc
    exact eq_region d L pV (Memref.isWhole_whole _) lV (Memref.isWhole_whole _) oV (Memref.isWhole_whole _)
            bV (Memref.isWhole_whole _) aV (Memref.isWhole_whole _) nV (Memref.isWhole_whole _) cV' (Memref.isWhole_whole _)
            cc0_scratch4 cc0_scratch5 cc0_scoped0 cc0_scoped1 _ _ _ ha3 _ _ _ _ _ hiota rfl rfl hv3 _ _ hl3 hr3 (chk2_of _ _ hl3) k acc
  isplitl [Hb]
  · iapply (eqInv_zero d L _ _ _ _ _ _ rfl) $$ Hb
  iintro %acc7 HI
  unfold eqInv
  icases HI with ⟨Hb, %hacc7⟩
  sl_exec
  have h0 := row_hit (m (pLoc d)) (m (lLoc d)) (4 * wid L) _ acc0 acc1 e31 hl0 hacc0 (hacc1.trans (trips_laneAcc _ _ _ hl0))
  have h1 := row_hit (m (pLoc d)) (m (lLoc d)) (4 * wid L + 1) _ acc2 acc3 e101 hl1 hacc2 (hacc3.trans (trips_laneAcc _ _ _ hl1))
  have h2 := row_hit (m (pLoc d)) (m (lLoc d)) (4 * wid L + 2) _ acc4 acc5 e171 hl2 hacc4 (hacc5.trans (trips_laneAcc _ _ _ hl2))
  have h3 := row_hit (m (pLoc d)) (m (lLoc d)) (4 * wid L + 3) _ acc6 acc7 e234 hl3 hacc6 (hacc7.trans (trips_laneAcc _ _ _ hl3))
  have hd : ∀ j, tile_run.sl.dma16 d L fc acc0 acc1 acc2 acc3 acc4 acc5 acc6 acc7 j = resOf (m (pLoc d)) (m (lLoc d)) (wid L) := by
    intro j
    sl_unfold_run_names
    refine fill_read cV' fc _ _ ((pay_eq _ _ _).trans (funext fun _ => ?_)) j
    unfold resOf sum4
    rw [← h0, ← h1, ← h2, ← h3]
    rfl
  sl_step
  iexists ((oRowK L).view.writes (Elt F) fo [⟨Rect.whole S128, tile_run.sl.dma16 d L fc acc0 acc1 acc2 acc3 acc4 acc5 acc6 acc7⟩])
  isplitr
  · ipureintro
    exact fun j => (congrFun (View.read_writes_whole _ _ _) j).trans (hd j)
  isplitl [Hp]; · iexact Hp
  isplitl [Hl]; · iexact Hl
  isplitl [Ho]; · iexact Ho
  isplitl [Ha]; · iexists _; iexact Ha
  isplitl [Hb]; · iexists _; iexact Hb
  isplitl [Hn]; · iexists _; iexact Hn
  isplitl [Hc]; · iexists _; iexact Hc
  isplitl [Hs4]; · iexact Hs4
  isplitl [Hs5]; · iexact Hs5
  isplitl [Hs0]; · iexact Hs0
  isplitl [Hs1]; · iexact Hs1
  iexists _; isplitr
  swap; · iexact HO
  ipureintro
  intro p hp
  simp only [Finset.mem_insert] at hp
  rcases hp with hp | hp | hp | hp | hp | hp | hp
  all_goals first
    | exact .inr (hp ▸ rfl)
    | exact .inl hp

end Tile

end Cert.KernelIdeal.Tile
-- ==== Proof.Launch.lean ====
/-
  The SparseCore call: what each tile takes and brings back, the tile's obligation from its run, and the two inputs and
  the output dealt to the thirty-two tiles and put together again.
-/
module

public import proofs.«01_k».proof.Proof.Tile
public import Idealize.ShloMosaic.Lib.ShareLeaves

@[expose] public section

noncomputable section

namespace Cert.KernelIdeal.Launch

open Cert.KernelIdeal Cert.KernelIdeal.Gen Cert.KernelIdeal.Count Cert.KernelIdeal.Row Cert.KernelIdeal.Fetch
  Cert.KernelIdeal.Tile

open Idealize.ShloMosaic
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

abbrev D : Defs nD τ sig (Elt F) (ΛP (F := F)) := Pipeline.defs pcfgs defs₀
abbrev 𝒱 : Variants := 𝒱₀.lift
abbrev v₀ : 𝒱.V := Sum.inl none
/-- The handshakes' part of the ghost state. -/
abbrev EH : Emb UH (MT nD τ sig (HIx 1) (Elt F) ℕ UU ℕ) := embL

variable (m : (ℓ : Loc nD τ sig) → Buf (Elt F) ℓ)

local notation "pV" => (Memref.whole Cert.KernelIdeal.main_arg0_scv : Memref Cert.KernelIdeal.sig Kind.scVector Space.hbm Cert.KernelIdeal.S128x32768 EltTy.f32)
local notation "lV" => (Memref.whole Cert.KernelIdeal.main_arg1_scv : Memref Cert.KernelIdeal.sig Kind.scVector Space.hbm Cert.KernelIdeal.S128 EltTy.i32)
local notation "oV" => (Memref.whole Cert.KernelIdeal.main_v0_scv : Memref Cert.KernelIdeal.sig Kind.scVector Space.hbm Cert.KernelIdeal.S32x128 EltTy.f32)
local notation "aV" => (Memref.whole Cert.KernelIdeal.cc0_scratch0 : Memref Cert.KernelIdeal.sig Kind.scVector Space.vmem Cert.KernelIdeal.S32896 EltTy.f32)
local notation "bV" => (Memref.whole Cert.KernelIdeal.cc0_scratch1 : Memref Cert.KernelIdeal.sig Kind.scVector Space.vmem Cert.KernelIdeal.S32896 EltTy.f32)
local notation "nV" => (Memref.whole Cert.KernelIdeal.cc0_scratch2 : Memref Cert.KernelIdeal.sig Kind.scVector Space.vmem Cert.KernelIdeal.S144 EltTy.i32)
local notation "cV'" => (Memref.whole Cert.KernelIdeal.cc0_scratch3 : Memref Cert.KernelIdeal.sig Kind.scVector Space.vmem Cert.KernelIdeal.S128 EltTy.f32)

/-! ## What the handshakes carry -/

theorem odiv : 32 ∣ S32x128.size 0 := ⟨1, rfl⟩
/-- Row `w` of the output. -/
abbrev oRow (w : Fin 32) : Rect S32x128 := Rect.part (s := S32x128) (a₀ := 0) odiv w
abbrev oSet (w : Fin 32) : Finset S32x128.Idx := ((oV).view.slice (oRow w)).set

/-- The output after the call: in row `w` the number of hits among the rows `4 w` to `4 w + 3`. -/
def outBuf (d : Dev nD) : Buf (Elt F) (oLoc d) := fun i : S32x128.Idx => resOf (m (pLoc d)) (m (lLoc d)) (i 0).val

abbrev pSh (d : Dev nD) (w : Fin 32) : sProp 𝕄 := pLoc d ↦{leaf 5 fullShare w} m (pLoc d)
abbrev lSh (d : Dev nD) (w : Fin 32) : sProp 𝕄 := lLoc d ↦{leaf 5 fullShare w} m (lLoc d)
abbrev oPt (d : Dev nD) (w : Fin 32) (f : Buf (Elt F) (oLoc d)) : sProp 𝕄 := oLoc d ↦[oSet w]{fullShare} f

/-- What tile `w` takes, its row of the output at `f`. -/
abbrev tileHas (d : Dev nD) (f : Buf (Elt F) (oLoc d)) (w : Fin 32) : sProp 𝕄 := iprop(pSh m d w ∗ lSh m d w ∗ oPt d w f)

/-- The number of the tile on subcore `i` of core `c`. -/
abbrev tileNo (i : Fin 16) (c : Fin 2) : Fin 32 := finProdFinEquiv (m := 16) (n := 2) (i, c)

theorem tileNo_val (i : Fin 16) (c : Fin 2) : (tileNo i c).val = c.val + 2 * i.val := rfl

/-- The call takes, per core, what that core's sixteen tiles take, and brings back the same with the rows of the output
    counted. -/
def P : (K (F := F)).Pay (nD := nD) (Val := Elt F) (Name := ℕ) (U := UU) where
  st := fun q d c => match q with | 0 => bigSep Finset.univ fun i : Fin 16 => tileHas m d (m (oLoc d)) (tileNo i (Fin.cast nCore_zero c))
  dn := fun q d c => match q with | 0 => bigSep Finset.univ fun i : Fin 16 => tileHas m d (outBuf m d) (tileNo i (Fin.cast nCore_zero c))
  go := fun q d c i => match q with | 0 => tileHas m d (m (oLoc d)) (tileNo (Fin.cast nSub_zero i) (Fin.cast nCore_zero c))
  td := fun q d c i => match q with | 0 => tileHas m d (outBuf m d) (tileNo (Fin.cast nSub_zero i) (Fin.cast nCore_zero c))
  x := fun _ _ => iprop(emp)

instance P_storable : (P (F := F) m).IsStorable where
  st q d c := match q with
    | 0 => (inferInstance : BI.Storable (upEmb : UEmb _ 𝕄) (bigSep Finset.univ fun i : Fin 16 => tileHas m d (m (oLoc d)) (tileNo i (Fin.cast nCore_zero c))))
  dn q d c := match q with
    | 0 => (inferInstance : BI.Storable (upEmb : UEmb _ 𝕄) (bigSep Finset.univ fun i : Fin 16 => tileHas m d (outBuf m d) (tileNo i (Fin.cast nCore_zero c))))
  go q d c i := match q with
    | 0 => (inferInstance : BI.Storable (upEmb : UEmb _ 𝕄) (tileHas m d (m (oLoc d)) (tileNo (Fin.cast nSub_zero i) (Fin.cast nCore_zero c))))
  td q d c i := match q with
    | 0 => (inferInstance : BI.Storable (upEmb : UEmb _ 𝕄) (tileHas m d (outBuf m d) (tileNo (Fin.cast nSub_zero i) (Fin.cast nCore_zero c))))

/-! ## The tile's obligation -/

section Body

variable (d : Dev nD) (L : grid0.Coords)

/-- The tile's number. -/
def wL (L : grid0.Coords) : Fin 32 := ⟨wid L, wid_lt L⟩

theorem off26_eq : k0_off26 L = ![wid L, 0] := by
  have h := wid_lt L
  have e : (Scalar.addi (Scalar.muli (BitVec.ofNat 32 (L 1).val) 2#32) (BitVec.ofNat 32 (L 0).val)).toNat = wid L := by
    rw [word_wid, toNat_word _ (by omega)]
  unfold k0_off26
  funext a
  match a with
  | 0 => exact e
  | 1 => rfl

theorem oRect_eq : Rect.unit (s := S32x128) (k0_off26 L) S1x128.size (k0_off26_inb L) = oRow (wL L) := by
  unfold oRow Rect.part Rect.block
  congr 1 <;> funext a
  · rw [off26_eq]
    match a with
    | 0 => simp [Shape.partIx, Shape.partSize, wL]
    | 1 => simp [Shape.partIx, Shape.partSize]
  · match a with
    | 0 => simp [Shape.partSize]
    | 1 => simp [Shape.partSize]

theorem set_oRowK : (oRowK L).view.set = oSet (wL L) := by
  show (((oV).view.slice (Rect.unit (s := S32x128) (k0_off26 L) S1x128.size (k0_off26_inb L))).reshape S128 squeezes_S1x128_S128.numel_eq).set
    = ((oV).view.slice (oRow (wL L))).set
  rw [View.set_reshape]
  exact oRect_eq L ▸ rfl

theorem oSet_eq (w : Fin 32) : oSet w = (oRow w).set := by
  show ((View.whole (main_v0_scv : Ref sig .scVector)).slice (oRow w)).set = _
  rw [View.set_slice]; exact Finset.map_refl

/-- The places of the tile's row are those of row `wid L`. -/
theorem row_of_mem (i : S32x128.Idx) (hi : i ∈ (oRowK L).view.set) : (i 0).val = wid L := by
  rw [set_oRowK, oSet_eq, ← oRect_eq] at hi
  have h := (Rect.mem_set_unit.mp hi) 0
  rw [off26_eq] at h
  have h1 : wid L ≤ (i 0).val := h.1
  have h2 : (i 0).val < wid L + 1 := h.2
  omega

/-- A row at the counts, as the run leaves it, is the row of the output after the call. -/
theorem row_counts (f : Buf (Elt F) (oLoc d))
    (h : ∀ j : S128.Idx, View.read (Elt F) (oRowK L).view f j = resOf (m (pLoc d)) (m (lLoc d)) (wid L)) :
    ((oRowK L).view.loc (thr d L) ↦[(oRowK L).view.set]{fullShare} f : sProp 𝕄) = oPt d (wL L) (outBuf m d) := by
  have e : ∀ i ∈ (oRowK L).view.set, f i = outBuf m d i := by
    intro i hi
    obtain ⟨j, -, rfl⟩ := Finset.mem_map.mp hi
    have hj := h j
    rw [View.read_apply, cast_eq] at hj
    unfold outBuf
    exact hj.trans (congrArg _ (row_of_mem L _ hi).symm)
  unfold oPt
  rw [← set_oRowK]
  exact pointsTo_congr e

theorem pts_oRowK (f : Buf (Elt F) (oLoc d)) :
    ((oRowK L).view.loc (thr d L) ↦[(oRowK L).view.set]{fullShare} f : sProp 𝕄) = oPt d (wL L) f := by
  unfold oPt
  rw [set_oRowK]

/-- The four semaphores are among the subcore's own, with the rest. -/
theorem ownSems0_V :
    (ownSems0 (thr d L) : sProp 𝕄)
      = iprop(semVal (semAt d L cc0_scratch4.sem) 0 ∗ semVal (semAt d L cc0_scratch5.sem) 0
          ∗ semVal (semAt d L cc0_scoped0.sem) 0 ∗ semVal (semAt d L cc0_scoped1.sem) 0
          ∗ bigSep (((((ownCells (thr d L)).erase (semAt d L cc0_scratch4.sem)).erase (semAt d L cc0_scratch5.sem)).erase
              (semAt d L cc0_scoped0.sem)).erase (semAt d L cc0_scoped1.sem)) fun g => semVal g 0) := by
  have own : ∀ k : DmaSem sig, (SemLoc.dma k : SemLoc sig).isScoped .scVector = true → semAt d L k ∈ ownCells (thr d L) :=
    fun k h => (mem_ownCells (g := semAt d L k)).mpr ⟨rfl, h⟩
  have ne : ∀ k k' : DmaSem sig, k ≠ k' → semAt d L k ≠ semAt d L k' := fun k k' h e =>
    h (SemLoc.dma.inj (Prod.mk.inj e).2)
  have n54 : (cc0_scratch5.sem : DmaSem sig) ≠ cc0_scratch4.sem := by decide
  have n04 : (cc0_scoped0.sem : DmaSem sig) ≠ cc0_scratch4.sem := by decide
  have n05 : (cc0_scoped0.sem : DmaSem sig) ≠ cc0_scratch5.sem := by decide
  have n14 : (cc0_scoped1.sem : DmaSem sig) ≠ cc0_scratch4.sem := by decide
  have n15 : (cc0_scoped1.sem : DmaSem sig) ≠ cc0_scratch5.sem := by decide
  have n10 : (cc0_scoped1.sem : DmaSem sig) ≠ cc0_scoped0.sem := by decide
  unfold SparseCore.Cfg.ownSems0
  rw [SparseCore.bigSep_erase' (own cc0_scratch4.sem (by decide)),
    SparseCore.bigSep_erase' (Finset.mem_erase.mpr ⟨ne _ _ n54, own cc0_scratch5.sem (by decide)⟩),
    SparseCore.bigSep_erase' (Finset.mem_erase.mpr ⟨ne _ _ n05, Finset.mem_erase.mpr ⟨ne _ _ n04, own cc0_scoped0.sem (by decide)⟩⟩),
    SparseCore.bigSep_erase' (Finset.mem_erase.mpr ⟨ne _ _ n10, Finset.mem_erase.mpr ⟨ne _ _ n15, Finset.mem_erase.mpr ⟨ne _ _ n14,
      own cc0_scoped1.sem (by decide)⟩⟩⟩)]

/-- The four scratch buffers are among the subcore's own, with the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have own : ∀ b : Ref sig .scVector, ((Proc.scVector (cV L) (jV L)).devRef b).owner = .proc (.scVector (cV L) (jV L)) →
      (Proc.scVector (cV L) (jV L)).devRef b ∈ ownRefs (τ := τ) (.scVector (cV L) (jV L)) := fun b h =>
    SparseCore.Cfg.mem_ownRefs_of_owner (p := Proc.scVector (cV L) (jV L)) (b := (Proc.scVector (cV L) (jV L)).devRef b) h
  have ne : ∀ b b' : Ref sig .scVector, b ≠ b' → (Proc.scVector (cV L) (jV L)).devRef b ≠ (Proc.scVector (cV L) (jV L)).devRef b' :=
    fun b b' h e => h (Proc.devRef_injective _ e)
  have n10 : (cc0_scratch1 : Ref sig .scVector) ≠ cc0_scratch0 := by decide
  have n20 : (cc0_scratch2 : Ref sig .scVector) ≠ cc0_scratch0 := by decide
  have n21 : (cc0_scratch2 : Ref sig .scVector) ≠ cc0_scratch1 := by decide
  have n30 : (cc0_scratch3 : Ref sig .scVector) ≠ cc0_scratch0 := by decide
  have n31 : (cc0_scratch3 : Ref sig .scVector) ≠ cc0_scratch1 := by decide
  have n32 : (cc0_scratch3 : Ref sig .scVector) ≠ cc0_scratch2 := by decide
  unfold SparseCore.Cfg.ownBufs
  refine (SparseCore.bigSep_erase' (own cc0_scratch0 rfl)).trans ?_
  rw [SparseCore.bigSep_erase' (Finset.mem_erase.mpr ⟨ne _ _ n10, own cc0_scratch1 rfl⟩),
    SparseCore.bigSep_erase' (Finset.mem_erase.mpr ⟨ne _ _ n21, Finset.mem_erase.mpr ⟨ne _ _ n20, own cc0_scratch2 rfl⟩⟩),
    SparseCore.bigSep_erase' (Finset.mem_erase.mpr ⟨ne _ _ n32, Finset.mem_erase.mpr ⟨ne _ _ n31, Finset.mem_erase.mpr ⟨ne _ _ n30,
      own cc0_scratch3 rfl⟩⟩⟩)]

/-- The task on vector subcore `(L 0, L 1)`, from what the subcore is dealt. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileHas m d (m (oLoc d)) (wL L)
        ∗ scopedBufs (thr d L) ∗ scopedSems0 (thr d L) ∗ owes (thr d L) O W)
      ⊢ wp frame (wpE (defs₀ (F := F)) 𝒱₀ (thr d L) none) Set.univ
          (cc0__count_kernel L pV (Memref.isWhole_whole _) lV (Memref.isWhole_whole _) oV (Memref.isWhole_whole _)
            aV (Memref.isWhole_whole _) bV (Memref.isWhole_whole _) nV (Memref.isWhole_whole _) cV' (Memref.isWhole_whole _)
            cc0_scratch4 cc0_scratch5 cc0_scoped0 cc0_scoped1)
          fun _ => iprop(tileHas m d (outBuf m d) (wL L)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hp, Hl, Ho⟩, ⟨⟨%fa, Ha⟩, ⟨%fb, Hb⟩, ⟨%fn, Hn⟩, ⟨%fc, Hc⟩, Hbufs⟩, ⟨Hs4, Hs5, Hs0, Hs1, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (pts_oRowK (F := F) d L _).symm) $$ Ho
  iapply (wp_wand_r frame _ Set.univ)
  isplitr [Hbufs Hsems]
  · iapply (tile_run m d L hpre (leaf 5 fullShare (wL L)) O W fa fb fn fc (m (oLoc d)))
    isplitl [Hmw]; · iexact Hmw
    isplitl [Hp]; · iexact Hp
    isplitl [Hl]; · iexact Hl
    isplitl [Ho']; · iexact Ho'
    isplitl [Ha]; · iexact Ha
    isplitl [Hb]; · iexact Hb
    isplitl [Hn]; · iexact Hn
    isplitl [Hc]; · iexact Hc
    isplitl [Hs4]; · iexact Hs4
    isplitl [Hs5]; · iexact Hs5
    isplitl [Hs0]; · iexact Hs0
    isplitl [Hs1]; · iexact Hs1
    iexact HO
  iintro %_ ⟨%fo, %hfo, Hp, Hl, Ho, Ha, Hb, Hn, Hc, Hs4, Hs5, Hs0, Hs1, HO⟩
  ihave Ho' := (Entails.of_eq (row_counts m d L fo hfo)) $$ Ho
  isplitl [Hp Hl Ho']
  · isplitl [Hp]; · iexact Hp
    isplitl [Hl]; · iexact Hl
    iexact Ho'
  isplitl [Ha Hb Hn Hc Hbufs]
  · isplitl [Ha]; · iexact Ha
    isplitl [Hb]; · iexact Hb
    isplitl [Hn]; · iexact Hn
    isplitl [Hc]; · iexact Hc
    iexact Hbufs
  isplitl [Hs4 Hs5 Hs0 Hs1 Hsems]
  · isplitl [Hs4]; · iexact Hs4
    isplitl [Hs5]; · iexact Hs5
    isplitl [Hs0]; · iexact Hs0
    isplitl [Hs1]; · iexact Hs1
    iexact Hsems
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__count_kernel (coordsV c s)
          pV (Memref.isWhole_whole _) lV (Memref.isWhole_whole _) oV (Memref.isWhole_whole _)
          aV (Memref.isWhole_whole _) bV (Memref.isWhole_whole _) nV (Memref.isWhole_whole _) cV' (Memref.isWhole_whole _)
          cc0_scratch4 cc0_scratch5 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's number is the number of its subcore and core. -/
theorem tileNo_eq (c : Fin 2) (i : Fin 16) (hc : c.val < grid0.bound 0) (hi : i.val < grid0.bound 1) :
    tileNo i c = wL (coordsV ⟨c.val, hc⟩ ⟨i.val, hi⟩) :=
  Fin.ext (Nat.add_comm _ _)

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have e := tileNo_eq (Fin.cast nCore_zero c) (Fin.cast nSub_zero i) hci.1 hci.2
  have h := tile_body m d (coordsV ⟨_, hci.1⟩ ⟨_, hci.2⟩) hF hpre O W hO
  have e' : wL (coordsV ⟨_, hci.1⟩ ⟨_, hci.2⟩) = tileNo (Fin.cast nSub_zero i) (Fin.cast nCore_zero c) := e.symm
  rw [e'] at h
  exact h.trans (wp_mono frame _ _ fun _ => obl_post)

end Body

/-- A core's tiles are dealt what the core is, and bring back what it does. -/
theorem vecSplit : (K (F := F)).VecSplit' (P m) 0 := by
  intro d c
  show (bigSep Finset.univ fun i : Fin 16 => tileHas m d (m (oLoc d)) (tileNo i (Fin.cast nCore_zero c))) ⊢ |={Set.univ}=> iprop(
      (bigSep Finset.univ fun i : Fin 16 => tileHas m d (m (oLoc d)) (tileNo i (Fin.cast nCore_zero c)))
      ∗ ((bigSep Finset.univ fun i : Fin 16 => tileHas m d (outBuf m d) (tileNo i (Fin.cast nCore_zero c)))
          -∗ bigSep Finset.univ fun i : Fin 16 => tileHas m d (outBuf m d) (tileNo i (Fin.cast nCore_zero c))))
  iintro H; imodintro
  isplitl [H]; · iexact H
  iintro H; iexact H

/-! ## The inputs and the output, whole -/

theorem rows_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h

theorem rows_cover : (Finset.univ : Finset (Fin 32)).biUnion oSet = Finset.univ :=
  (Finset.biUnion_congr rfl fun i _ => oSet_eq i).trans (Rect.biUnion_part odiv)

theorem out_rows (d : Dev nD) (f : Buf (Elt F) (oLoc d)) :
    (oLoc d ↦{fullShare} f : sProp 𝕄) = bigSep Finset.univ fun w : Fin 32 => oPt d w f := by
  rw [← pointsTo_biUnion Finset.univ (ℓ := oLoc d) oSet rows_disjoint, rows_cover]; try rfl

/-- The inputs and the output whole are what the tiles take, core by core. -/
theorem whole_eq (d : Dev nD) (f : Buf (Elt F) (oLoc d)) :
    (iprop((pLoc d ↦{fullShare} m (pLoc d)) ∗ (lLoc d ↦{fullShare} m (lLoc d)) ∗ oLoc d ↦{fullShare} f) : sProp 𝕄)
      = bigSep Finset.univ fun c : Fin 2 => bigSep Finset.univ fun i : Fin 16 => tileHas m d f (tileNo i c) := by
  have e32 : (bigSep Finset.univ fun w : Fin 32 => tileHas m d f w)
      = (bigSep Finset.univ fun c : Fin 2 => bigSep Finset.univ fun i : Fin 16 => tileHas m d f (tileNo i c) : sProp 𝕄) := by
    rw [bigSep_univ_equiv (finProdFinEquiv (m := 16) (n := 2)) (fun w : Fin 32 => tileHas m d f w), bigSep_univ_prod]
    exact bigSep_univ_comm _
  rw [← e32, bigSep_sep', bigSep_sep', ← out_rows, pointsTo_leaves Finset.univ (m (pLoc d)) 5 fullShare,
    pointsTo_leaves Finset.univ (m (lLoc d)) 5 fullShare]
  rfl

theorem st0_eq (d : Dev nD) : (bigSep Finset.univ fun c : Fin ((K (F := F)).nCore 0) => (P m).st 0 d c)
    = iprop((pLoc d ↦{fullShare} m (pLoc d)) ∗ (lLoc d ↦{fullShare} m (lLoc d)) ∗ oLoc d ↦{fullShare} m (oLoc d)) :=
  (whole_eq m d (m (oLoc d))).symm
theorem dn0_eq (d : Dev nD) : (bigSep Finset.univ fun c : Fin ((K (F := F)).nCore 0) => (P m).dn 0 d c)
    = iprop((pLoc d ↦{fullShare} m (pLoc d)) ∗ (lLoc d ↦{fullShare} m (lLoc d)) ∗ oLoc d ↦{fullShare} outBuf m d) :=
  (whole_eq m d (outBuf m d)).symm

end Cert.KernelIdeal.Launch

end
-- ==== Proof.Reduce.lean ====
/-
  The reduction on the TensorCore: the sum of the counts' array, times the constant, by one run of the body over two
  whole-array windows.
-/
module

public import proofs.«01_k».proof.Proof.Launch
public import proofs.«01_k».proof.Proof.Gen.KernelIdeal.Launch
public import proofs.«01_k».proof.Proof.Gen.KernelIdeal.Points

@[expose] public section

noncomputable section

namespace Cert.KernelIdeal.Reduce

open Cert.KernelIdeal Cert.KernelIdeal.Gen Cert.KernelIdeal.Count Cert.KernelIdeal.Row Cert.KernelIdeal.Fetch
  Cert.KernelIdeal.Tile Cert.KernelIdeal.Launch

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

local notation "xS" => (Cert.KernelIdeal.stage1_0 0)
local notation "yS" => (Cert.KernelIdeal.stage1_1 0)

/-- The body: the staged counts kept, the result's place at their sum times the constant. -/
theorem body_run (c : Dev nD) (f0 : Buf (Elt F) ((xS).view.loc (c : Thread nD τ))) (f1 : Buf (Elt F) ((yS).view.loc (c : Thread nD τ)))
    (E : Set ℕ) (Q : PUnit → sProp 𝕄) :
    iprop(((xS).view.loc (c : Thread nD τ) ↦{fullShare} f0) ∗ ((yS).view.loc (c : Thread nD τ) ↦{fullShare} f1)
        ∗ (iprop(∃ g : Buf (Elt F) ((yS).view.loc (c : Thread nD τ)), ⌜View.read (Elt F) (yS).view g = fun _ => k1_pay1 (View.read (Elt F) (xS).view f0)⌝
            ∗ ((xS).view.loc (c : Thread nD τ) ↦{fullShare} f0) ∗ ((yS).view.loc (c : Thread nD τ) ↦{fullShare} g)) -∗ Q ⟨⟩))
      ⊢ wp frame (wpE (defs₀ (F := F)) 𝒱₀ c none) E (cc1__tc_reduce_body xS (hstage1_0 0) yS (hstage1_1 0)) Q := by
  rw [cc1__tc_reduce_body_eq_skeleton]; unfold cc1__tc_reduce_body_skel
  iintro ⟨H0, H1, Hk⟩
  sl_exec
  sl_step
  iapply Hk
  iexists _
  isplitr
  swap
  · isplitl [H0]; · iexact H0
    iexact H1
  ipureintro
  have hz : (![0, 0] : Fin 2 → Nat) = fun _ => 0 := by decide
  funext y
  refine View.read_writes_apply_of_forall_of_mem (yS).view f1 (fun z => z = k1_pay1 (View.read (Elt F) (xS).view f0)) y _ ?_ ?_
  · intro q hq x
    rw [List.mem_singleton] at hq
    subst hq
    exact congrArg k1_pay1 (View.ld_unit_zero hz inb_S32x128_S32x128_0_0 (View.read (Elt F) (xS).view f0))
  · exact ⟨_, List.mem_singleton_self _, View.mem_set_unit_zero hz inb_S1x1_S1x1_0_0 y⟩

/-! ## The proof data, at an entry valuation -/

variable (V : (c : Dev nD) → (b : Ref sig .tc) → Buf (Elt F) ((c : Thread nD τ).loc b))

/-- The counts as the fetch stages them. -/
abbrev staged (c : Dev nD) : (cfg1.win 0).block.Idx → Elt F (cfg1.win 0).elt :=
  ((cfg1.win 0).blk t1_0).view.read (Elt F) (V c main_v0)

/-- Their sum times the constant. -/
def total (c : Dev nD) : F .f32 := k1_pay1 (staged V c)

/-- The one block is the whole array. -/
theorem staged_eq (c : Dev nD) : staged V c = V c main_v0 := by
  funext j
  refine congrArg (V c main_v0) (funext fun a => Fin.ext ?_)
  exact Pipeline.Window.rect_emb_val_of_index_zero (cfg1.win 0) t1_0 a (by fin_cases a <;> decide) j

/-- The scoped buffers the pipeline does not stage. -/
abbrev rest (c : Dev nD) : sProp 𝕄 := Pipeline.scopedRest (Ix := HIx 1) (Name := ℕ) (U := UU) (Lvl := ℕ) (Val := Elt F) spec1 c

/-- The region's proof data from the valuation: after the body the counts as fetched, the result at the total. -/
def dat (c : Dev nD) : Dat τ (Elt F) (HIx 1) ℕ UU ℕ cfg1 c where
  A w := V c (Pipeline.arrRef spec1 w)
  after w _ := match w with
    | ⟨0, _⟩ => staged V c
    | ⟨1, _⟩ => fun _ => total V c
  Φ _ := rest c
  q _ := fullShare
  owed _ := 0

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_in (c : Dev nD) (d : (cfg1.win 0).block.Idx → Elt F (cfg1.win 0).elt) : (dat V c).before 0 t1_0 d = staged V c := by
  unfold Dat.before; rw [if_pos (by decide)]; rfl

theorem body_obligation (c : Dev nD) : BodyObligation (dat V c) (defs₀ (F := F)) 𝒱₀ (default : HIx 1) Set.univ := fun t => by
  obtain rfl := fin_N1 t
  rw [bigSep_W1, bigSep_W1]
  simp only [owns_whole_eq]
  rw [show (dat V c).Φ t1_0.castSucc = rest c from rfl, show (dat V c).Φ t1_0.succ = rest c from rfl,
    show (dat V c).owesAt default t1_0.succ = (dat V c).owesAt default t1_0.castSucc from rfl]
  iintro ⟨HΦ, Howes, ⟨%d0, %f0, %hf0, H0⟩, ⟨%d1, %f1, -, H1⟩⟩
  rw [before_in] at hf0
  iapply (body_run c f0 f1 Set.univ _)
  isplitl [H0]; · iexact H0
  isplitl [H1]; · iexact H1
  iintro ⟨%g, %hg, H0, H1⟩
  isplitl [HΦ]; · iexact HΦ
  isplitl [Howes]; · iexact Howes
  isplitl [H0]
  · iexists f0; isplitr; swap; (· iexact H0)
    ipureintro; exact hf0
  iexists g; isplitr; swap; (· iexact H1)
  ipureintro
  subst hf0
  exact hg

/-- The result's array after the region: the total, in its one place. -/
theorem result_array (c : Dev nD) : (dat V c).arrAt 1 cfg1.N = fun _ => total V c :=
  (dat V c).arrAt_eq_of_after_last 1 t1_0 (by decide) (fun _ => total V c) fun _ => rfl

-- the valuation the region leaves: the result's array at the total, the rest as before
variable (V' : (c : Dev nD) → (b : Ref sig .tc) → Buf (Elt F) ((c : Thread nD τ).loc b))

abbrev Lv : GSem nD τ sig → Finset (HIx 1) := (K (F := F)).L
abbrev lv : GSem nD τ sig → HIx 1 → ℕ := (K (F := F)).lev

set_option backward.isDefEq.respectTransparency.types false in
/-- The region, from the unscoped buffers at `V` and the core owing nothing, to the same at `V'`. -/
def reg (hout : ∀ c, V' c main_v1 = fun _ => total V c) (hne : ∀ c (b : Ref sig .tc), b ≠ main_v1 → V' c b = V c b) :
    Pipeline.RegionSeg (pcfgs (F := F)) adm (pdats V) default defs₀ 𝒱₀ (Lv (F := F)) (lv (F := F)) 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (Lv (F := F)) (lv (F := F)) 0 fun _ _ => rfl
  pre c := iprop(unscopedBufs c (V c) ∗ ∃ W, owes (c : Thread nD τ) (0 : CellTallies nD τ sig (HIx 1)) W)
  post c := iprop(unscopedBufs c (V' c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, %W, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]; iempintro
    isplitl [HO]
    · iexists W
      isplitr; · ipureintro; exact fun _ _ => Or.inl trivial
      iexact HO
    isplitr; · iempintro
    iexact Hrest
  hin c := by
    rw [show (pdats V 0 c).Φ 0 = rest c from rfl]
    iintro ⟨-, -, Hr⟩; iexact Hr
  hout c := by
    rw [Pipeline.ownSems0_none, show (pdats V 0 c).Φ (Fin.last _) = rest c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win
      launch1.arr_whole c (pdats V) ((pdats V 0 c).share_full fun _ => rfl) (V c) (V' c) ((pdats V 0 c).arrAt · cfg1.N)
      (fun w => by
        fin_cases w
        · exact ((pdats V 0 c).arrAt_in 0 rfl _).trans (hne c main_v0 (by decide)).symm
        · exact (result_array V c).trans (hout c).symm)
      (fun b hb => hne c b fun h => hb (h ▸ Finset.mem_image.mpr ⟨1, Finset.mem_univ _, rfl⟩))
    iintro ⟨Ha, ⟨%W, -, HO⟩, -, Hrest⟩
    imodintro
    isplitl [Ha Hrest]
    · iapply hjoin; isplitl [Ha] <;> iassumption
    iexists W; iexact HO

end Cert.KernelIdeal.Reduce

end
-- ==== Proof.Run.lean ====
/-
  The whole program: the counts on the SparseCores, their sum on the TensorCore, the reshape of the one-by-one result.
-/
module

public import proofs.«01_k».proof.Proof.Reduce
public import Idealize.ShloMosaic.Lib.SparseCore.Quiescent
public import Idealize.ShloMosaic.Lib.StableHlo.Run
public import Idealize.ShloMosaic.Lib.Pipeline.Kit

@[expose] public section

noncomputable section

namespace Cert.KernelIdeal.Whole

open Cert.KernelIdeal Cert.KernelIdeal.Gen Cert.KernelIdeal.Count Cert.KernelIdeal.Row Cert.KernelIdeal.Fetch
  Cert.KernelIdeal.Tile Cert.KernelIdeal.Launch Cert.KernelIdeal.Reduce

open Idealize.ShloMosaic
open Idealize.ShloMosaic.TcCoe
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The staging cells' part of the ghost state. -/
def EP : Emb (URounds (GSem nD τ sig) Unit) 𝕄 :=
  ((Emb.inl : Emb (URounds (GSem nD τ sig) Unit) (URounds (GSem nD τ sig) Unit × Counters)).trans
    (Emb.inr : Emb (URounds (GSem nD τ sig) Unit × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := by unfold EP; infer_instance

/-- The staging cells are distinct. -/
theorem phinj : Function.Injective (Pipeline.cellOf (nD := nD) (τ := τ) (Pipeline.pin (pcfgs (F := F)) adm)) :=
  (launch1.toP (Val := Elt F)).cellOf_inj adm

/-- The staging cells' part at the launch. -/
abbrev pipe₀ : URounds (GSem nD τ sig) Unit :=
  initOf (Pipeline.cells (Pipeline.pin (pcfgs (F := F)) adm) (phinj (F := F))) (Pipeline.launchToks (Pipeline.pin (pcfgs (F := F)) adm) (phinj (F := F)))

def u₀ : UU := (initOf (K (F := F)).hsCells (K (F := F)).hsToks, (pipe₀ (F := F), 1))

/-- What `@main` gets of the launch's ghost state on each device: the staging cells, unopened. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own ((EH (F := F)) (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks) ((pipe₀ (F := F), 1) : URounds (GSem nD τ sig) Unit × Counters)) $$ Hu
  icases H with ⟨HH, HP⟩
  ihave HP' := (show (BI.own (embR ((pipe₀ (F := F), 1) : URounds (GSem nD τ sig) Unit × Counters)) : sProp 𝕄) ⊢ BI.own (EP (F := F) (pipe₀ (F := F))) from
    Entails.of_eq rfl) $$ HP
  imod (Pipeline.fund_ghost (Pipeline.pin (pcfgs (F := F)) adm) (EP (F := F)) (phinj (F := F))) $$ HP' with ⟨Hc, Ht⟩
  imodintro
  isplitl [HH]; · iexact HH
  isplitl [Hc Ht]
  swap
  · rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), bigSep_emp']
    iempintro
  rw [bigSep_sep']
  isplitl [Hc]
  · iapply (Entails.of_eq (bigSep_congr fun d _ => bigSep_univ_of_subsingleton (Φ := fun p => (Pipeline.cellsGhost (Pipeline.pin (pcfgs (F := F)) adm) (EP (F := F)) p d : sProp 𝕄)) (0 : Fin 1)))
    iexact Hc
  · iapply (Entails.of_eq (bigSep_congr fun d _ => bigSep_univ_of_subsingleton (Φ := fun p => (Pipeline.toksInit (Pipeline.pin (pcfgs (F := F)) adm) (EP (F := F)) p d : sProp 𝕄)) (0 : Fin 1)))
    iexact Ht

/-! ## The valuations `@main` goes through -/

abbrev p' : DevRef τ sig := Proc.devRef .tc (main_arg0 : Ref sig .tc)
abbrev l' : DevRef τ sig := Proc.devRef .tc (main_arg1 : Ref sig .tc)
abbrev o' : DevRef τ sig := Proc.devRef .tc (main_v0 : Ref sig .tc)
abbrev s' : DevRef τ sig := Proc.devRef .tc (main_v1 : Ref sig .tc)
abbrev r' : DevRef τ sig := Proc.devRef .tc (main_v2 : Ref sig .tc)
abbrev opR : HloOp τ sig (Elt F) := StableHlo.reshape main_v1 main_v2 (rfl : (.f32 : EltTy) = .f32) shapeCasts_S1x1_S1

abbrev S5 : Finset (DevRef τ sig) := {p', l', o', s', r'}

/-- The program's result: the counts' sum times the constant. -/
def out (d : Dev nD) : Buf (Elt F) ((d : Thread nD τ).loc main_v2) := fun _ => k1_pay1 (outBuf m d)

/-- After the counts. -/
def W1 (d : Dev nD) : Valuation τ sig (Elt F) := Function.update (fun b => m (d, b)) o' (outBuf m d)
abbrev V1 (d : Dev nD) (b : Ref sig .tc) : Buf (Elt F) ((d : Thread nD τ).loc b) := W1 m d b
/-- After the reduction. -/
def W2 (d : Dev nD) : Valuation τ sig (Elt F) := Function.update (W1 m d) s' (fun _ => total (V1 m) d)
abbrev V2 (d : Dev nD) (b : Ref sig .tc) : Buf (Elt F) ((d : Thread nD τ).loc b) := W2 m d b

theorem unscoped_five (d : Dev nD) (W : (b : Ref sig .tc) → Buf (Elt F) ((d.tc : Thread nD τ).loc b)) :
    (unscopedBufs d W : sProp 𝕄) = iprop((pLoc d ↦{fullShare} W main_arg0) ∗ (lLoc d ↦{fullShare} W main_arg1) ∗ (oLoc d ↦{fullShare} W main_v0)
      ∗ ((d : Thread nD τ).loc main_v1 ↦{fullShare} W main_v1) ∗ (d : Thread nD τ).loc main_v2 ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

theorem held_five (d : Dev nD) (W : Valuation τ sig (Elt F)) :
    (held (T d) S5 W : sProp 𝕄) = unscopedBufs d (fun b => W b) := by
  rw [unscoped_five]
  unfold held S5
  rw [SparseCore.bigSep_insert' (by decide), SparseCore.bigSep_insert' (by decide), SparseCore.bigSep_insert' (by decide), SparseCore.bigSep_insert' (by decide), bigSep_singleton]

theorem W1_p (d : Dev nD) : W1 m d p' = m (pLoc d) := Function.update_of_ne (show p' ≠ o' by decide) _ _
theorem W1_l (d : Dev nD) : W1 m d l' = m (lLoc d) := Function.update_of_ne (show l' ≠ o' by decide) _ _
theorem W1_o (d : Dev nD) : W1 m d o' = outBuf m d := Function.update_self _ _ _
theorem W1_s (d : Dev nD) : W1 m d s' = m ((d : Thread nD τ).loc main_v1) := Function.update_of_ne (show s' ≠ o' by decide) _ _
theorem W1_r (d : Dev nD) : W1 m d r' = m ((d : Thread nD τ).loc main_v2) := Function.update_of_ne (show r' ≠ o' by decide) _ _

theorem V2_out (d : Dev nD) : V2 m d main_v1 = fun _ => total (V1 m) d := Function.update_self _ _ _
theorem V2_ne (d : Dev nD) (b : Ref sig .tc) (h : b ≠ main_v1) : V2 m d b = V1 m d b :=
  Function.update_of_ne (fun e => h (Proc.devRef_injective _ e)) _ _

theorem total_eq (d : Dev nD) : total (V1 m) d = k1_pay1 (outBuf m d) := by
  unfold total
  rw [staged_eq]
  exact congrArg k1_pay1 (W1_o m d)

theorem end_p (d : Dev nD) : (opR (F := F)).result (W2 m d) p' = m (pLoc d) := by
  rw [(opR (F := F)).result_of_not_mem (W2 m d) (b := p') (show p' ∉ ({r'} : Finset (DevRef τ sig)) by decide)]
  exact (V2_ne m d main_arg0 (by decide)).trans (W1_p m d)
theorem end_l (d : Dev nD) : (opR (F := F)).result (W2 m d) l' = m (lLoc d) := by
  rw [(opR (F := F)).result_of_not_mem (W2 m d) (b := l') (show l' ∉ ({r'} : Finset (DevRef τ sig)) by decide)]
  exact (V2_ne m d main_arg1 (by decide)).trans (W1_l m d)
theorem end_r (d : Dev nD) : (opR (F := F)).result (W2 m d) r' = out m d := by
  refine (StableHlo.reshape_result main_v1 main_v2 rfl shapeCasts_S1x1_S1 _ _ (W2 m d)).trans ?_
  have h : W2 m d s' = fun _ => k1_pay1 (outBuf m d) := (V2_out m d).trans (funext fun _ => total_eq m d)
  rw [show W2 m d (main_v1 : DevRef τ sig) = fun _ => k1_pay1 (outBuf m d) from h]
  rfl

theorem opR_sub : (opR (F := F)).bufs ⊆ S5 := show ({s', r'} : Finset (DevRef τ sig)) ⊆ S5 by decide

/-- What `@main` leaves: the arguments at their launch contents, the result at the value. -/
abbrev FIN (d : Dev nD) : sProp 𝕄 :=
  iprop((pLoc d ↦{fullShare} m (pLoc d)) ∗ (lLoc d ↦{fullShare} m (lLoc d)) ∗ (d : Thread nD τ).loc main_v2 ↦{fullShare} out m d)

theorem held_end (d : Dev nD) : (held (T d) S5 ((opR (F := F)).result (W2 m d)) : sProp 𝕄) ⊢ FIN m d := by
  rw [held_five, unscoped_five, end_p, end_l, end_r]
  iintro ⟨Hp, Hl, -, -, Hr⟩
  isplitl [Hp]; · iexact Hp
  isplitl [Hl]; · iexact Hl
  iexact Hr

/-- After the one SparseCore call the TensorCore owes nothing, and whatever it has waited for lies below what comes next. -/
theorem tcSt_owes (d : Dev nD) : ((K (F := F)).tcSt EH d 1 : sProp 𝕄)
    ⊢ iprop((∃ W, owes (d : Thread nD τ) (0 : CellTallies nD τ sig (HIx 1)) W)
        ∗ ((∃ W, owes (d : Thread nD τ) (0 : CellTallies nD τ sig (HIx 1)) W) -∗ (K (F := F)).tcSt EH d 1)) := by
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'
    isplitr; swap; (· iexact HO)
    ipureintro
    intro p hp
    cases h : p.2 with
    | none => exact Nat.zero_le _
    | some q => exact ((K (F := F)).lev_some_le _ q).trans (by have := q.isLt; show 8 * q.val + 7 ≤ 8 * 1; omega)
  iexact Hrest

/-- What the reduction's region is entered with. -/
theorem reg_pre (d : Dev nD) : iprop(((pLoc d ↦{fullShare} m (pLoc d)) ∗ (lLoc d ↦{fullShare} m (lLoc d)) ∗ (oLoc d ↦{fullShare} outBuf m d)
      ∗ ((d : Thread nD τ).loc main_v1 ↦{fullShare} m ((d : Thread nD τ).loc main_v1)) ∗ (d : Thread nD τ).loc main_v2 ↦{fullShare} m ((d : Thread nD τ).loc main_v2))
      ∗ ∃ W, owes (d : Thread nD τ) (0 : CellTallies nD τ sig (HIx 1)) W)
    ⊢ (reg (V1 m) (V2 m) (V2_out m) (V2_ne m)).pre d := by
  show _ ⊢ iprop(unscopedBufs d (V1 m d) ∗ ∃ W, owes (d : Thread nD τ) (0 : CellTallies nD τ sig (HIx 1)) W)
  rw [unscoped_five, show V1 m d main_arg0 = m (pLoc d) from W1_p m d, show V1 m d main_arg1 = m (lLoc d) from W1_l m d,
    show V1 m d main_v0 = outBuf m d from W1_o m d, show V1 m d main_v1 = m ((d : Thread nD τ).loc main_v1) from W1_s m d,
    show V1 m d main_v2 = m ((d : Thread nD τ).loc main_v2) from W1_r m d]

/-- `@main`: the counts, the reduction, the reshape. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_five]
  simp only [main, wp_bind, wp_pure]
  iintro ⟨#Hctx, Hst, ⟨Hb, ⟨Hp, Hl, Ho, Hs, Hr⟩, Hts, -⟩, Hg⟩
  iapply ((K (F := F)).wp_run (D (F := F)) 𝒱 (EH := EH) (P := P m) κ d 0) $$ [Hst Hp Hl Ho Hs Hr Hb Hts Hg]
  isplitr; · iexact Hctx
  isplitl [Hst]; · iexact Hst
  isplitl [Hp Hl Ho]
  · rw [st0_eq]
    isplitl [Hp]; · iexact Hp
    isplitl [Hl]; · iexact Hl
    iexact Ho
  iintro ⟨Hst, Hdn⟩
  ihave Hdn' := (Entails.of_eq (dn0_eq m d)) $$ Hdn
  icases Hdn' with ⟨Hp, Hl, Ho⟩
  rw [show ((0 : Fin 1) : ℕ) + 1 = 1 from rfl]
  ihave Hst' := (tcSt_owes d) $$ Hst
  icases Hst' with ⟨HO, Hst⟩
  ihave Hlev := ((K (F := F)).ctx_levAts κ) $$ Hctx
  iapply ((K (F := F)).wp_liftProg (D (F := F)) 𝒱 (SparseCore.T d) Set.univ none (.op (.customCall (Pipeline.entry 0) ()) .ret) _)
  iapply (Pipeline.RegionSeg.wp (pcfgs (F := F)) adm (pdats (V1 m)) default phinj EP defs₀ 𝒱₀ (Lv (F := F)) (lv (F := F))
    (reg (V1 m) (V2 m) (V2_out m) (V2_ne m)) d none (fun _ h => nomatch h) .ret _)
  isplitr [Hb Hp Hl Ho Hs Hr HO Hg Hlev]
  swap
  · isplitl [Hb]; · iexact Hb
    isplitl [Hp Hl Ho Hs Hr HO]
    · iapply (reg_pre m d)
      isplitr [HO]; swap; (· iexact HO)
      isplitl [Hp]; · iexact Hp
      isplitl [Hl]; · iexact Hl
      isplitl [Ho]; · iexact Ho
      isplitl [Hs]; · iexact Hs
      iexact Hr
    isplitl [Hlev]; · iexact Hlev
    icases Hg with ⟨Hc, Ht⟩
    isplitl [Hc]; · iexact Hc
    iexact Ht
  iintro ⟨Hb, Hpost⟩
  ihave Hpost' := (show (reg (V1 m) (V2 m) (V2_out m) (V2_ne m)).post d
    ⊢ iprop(held (T d) S5 (W2 m d) ∗ ∃ W, owes (d : Thread nD τ) (0 : CellTallies nD τ sig (HIx 1)) W) from by rw [held_five]; exact Entails.refl _) $$ Hpost
  icases Hpost' with ⟨Hh, HO⟩
  ihave Hst' := Hst $$ HO
  rw [wp_ret]; imodintro
  iapply (wp_hlo_within 𝒱 (SparseCore.T d) none Set.univ (op := opR (F := F)) (S := S5) opR_sub (V := W2 m d)) $$ [Hb Hh]
  · isplitl [Hb] <;> iassumption
  iintro ⟨Hb, Hh⟩
  rw [wp_ret]; imodintro; imodintro
  isplitl [Hst']; · iexact Hst'
  isplitl [Hh]; · iapply (held_end m d); iexact Hh
  isplitl [Hb] <;> iassumption

/-! ## The run -/

def fq (d : Dev nD) (s : Phys nD τ sig (Elt F)) : Prop :=
  s.mem.mem (pLoc d) = m (pLoc d) ∧ s.mem.mem (lLoc d) = m (lLoc d) ∧ s.mem.mem ((d : Thread nD τ).loc main_v2) = out m d

set_option maxRecDepth 16384 in
theorem hfin (d : Dev nD) (s : Phys nD τ sig (Elt F)) : iprop(FIN m d ∗ SI s) ⊢ (⌜fq m d s⌝ : sProp 𝕄) := by
  iintro ⟨⟨Hp, Hl, Hr⟩, HSI⟩
  ihave H := (persistent_entails_right (SI_pointsTo_agree (st := s) (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s) (ℓ := lLoc d) (I := Finset.univ) (q := fullShare) (f := m (lLoc d)))) $$ [HSI Hl]
  · isplitl [HSI] <;> iassumption
  icases H with ⟨%h2, HSI, -⟩
  ihave H := (SI_pointsTo_agree (st := s) (ℓ := (d : Thread nD τ).loc main_v2) (I := Finset.univ) (q := fullShare) (f := out m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What a run leaves: on every device the arguments as they were and the result at its value; every semaphore at zero. -/
def QC : PUnit × MemSt nD τ sig (Elt F) → Prop := fun r =>
  (∀ c : Dev nD, r.2.mem (pLoc c) = m (pLoc c) ∧ r.2.mem (lLoc c) = m (lLoc c) ∧ r.2.mem ((c : Thread nD τ).loc main_v2) = out m c) ∧ r.2.sem = fun _ => 0

/-- Every execution from labels in range ends so. -/
theorem run_main [∀ e, Nonempty (Elt F e)] (hpre : PreOK m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.KernelIdeal.Whole

end
-- ==== Proof.Frames.lean ====
/-
  The frames: the run with its values dropped, for the kernel over machine words and over the reals, and the reference's.
-/
module

public import proofs.«01_k».proof.Defs
public import proofs.«01_k».proof.Proof.Run
public import proofs.«01_k».proof.Proof.Gen.Kernel
public import proofs.«01_k».proof.Proof.Gen.Pre_labels_in_range
public import proofs.«01_k».proof.Proof.Gen.ReferenceIdeal.Run
public import Idealize.ShloMosaic.Lib.ReduceAll
public import Idealize.ShloMosaic.Lib.QuiescentFlight

@[expose] public section

noncomputable section

namespace Cert.Frames

open Cert.KernelIdeal.Tile Cert.KernelIdeal.Launch Cert.KernelIdeal.Whole
open Idealize.ShloMosaic Idealize.ShloMosaic.TcCoe Idealize.SL.Sem

/-- The precondition's word: both comparisons true say that the label is below 32768. -/
theorem label_of_word (v : BitVec 32) (e : IntOp.andi (IntOp.cmpi .sge v 0#32) (IntOp.cmpi .slt v 32768#32) = 1#1) : v.toNat < 32768 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_labels_in_range.S_.Idx := ⟨fun _ _ => funext fun a => a.elim0⟩

/-- The precondition over either values: every label below 32768. -/
theorem labels_lt {F : FTy → Type} [FloatOps F] (x : FVec F Cert.Pre_labels_in_range.S128x32768 .f32) (l : IVec Cert.Pre_labels_in_range.S128 32)
    (h : Cert.Pre_labels_in_range.fn (F := F) x l = fun _ => 1#1) (j : Cert.Pre_labels_in_range.S128.Idx) : (l j).toNat < 32768 :=
  label_of_word (l j) (Host.reduce_andi_all _ _ _ _ (fun a => a.elim0) (congrFun h fun a => a.elim0) j)

theorem ok_bits (m : (ℓ : Loc Cert.KernelIdeal.nD Cert.KernelIdeal.τ Cert.KernelIdeal.sig) → Buf (Elt Bits) ℓ) (h : Cert.Pre_Kernel m) : PreOK (F := Bits) m :=
  fun d j => labels_lt _ _ (h d) j

theorem ok_ideal (m : (ℓ : Loc Cert.KernelIdeal.nD Cert.KernelIdeal.τ Cert.KernelIdeal.sig) → Buf (Elt Ideal) ℓ) (h : Cert.Pre_KernelIdeal m) : PreOK (F := Ideal) m :=
  fun d j => labels_lt _ _ (h d) j

/-! ## The two kernel modules have one text -/

set_option maxHeartbeats 1000000 in
theorem defs₀_same : @Cert.Kernel.defs₀ Bits _ _ = @Cert.KernelIdeal.defs₀ Bits _ _ := by
  funext p ℓ a
  cases p <;> fin_cases ℓ <;> rfl

theorem sc_same : @Cert.Kernel.sc Bits _ = @Cert.KernelIdeal.sc Bits _ := rfl

theorem main_same : @Cert.Kernel.main Bits _ = @Cert.KernelIdeal.main Bits _ := rfl

theorem defs_same : @Cert.Kernel.defs Bits _ _ = @Cert.KernelIdeal.defs Bits _ _ :=
  congrArg (fun D => (@Cert.KernelIdeal.sc Bits _).defs (Pipeline.defs (@Cert.KernelIdeal.pcfgs Bits _) D)) defs₀_same

theorem threads_same : @Cert.Kernel.threads Bits _ = @Cert.KernelIdeal.threads Bits _ :=
  congrArg (fun M => (@Cert.KernelIdeal.sc Bits _).threads M) main_same

theorem frame_kernel : Cert.quiescent_Kernel := fun m ρ h => by
  rw [defs_same, threads_same]
  exact (θ_run Cert.KernelIdeal.defs _ _).mono (fun _ hr => ⟨fun c => ⟨(hr.1 c).1, (hr.1 c).2.1⟩, hr.2⟩) (run_main (F := Bits) m ρ (ok_bits m h))

theorem frame_ideal : Cert.quiescent_KernelIdeal := fun m ρ h =>
  (θ_run Cert.KernelIdeal.defs _ _).mono (fun _ hr => ⟨fun c => ⟨(hr.1 c).1, (hr.1 c).2.1⟩, hr.2⟩) (run_main (F := Ideal) m ρ (ok_ideal m h))

theorem frame_reference : Cert.quiescent_ReferenceIdeal := fun m ρ _ =>
  (θ_run Cert.ReferenceIdeal.defs _ _).mono (fun _ hr => ⟨fun c => (hr c).2, Idealize.ShloMosaic.sem_eq_zero_of_no_sems (by decide) _⟩)
    (Cert.ReferenceIdeal.Value.run (F := Ideal) m ρ)

end Cert.Frames

end
-- ==== Proof.Rank.lean ====
/-
  Where a stable sort puts a position. Sorting the positions of a row from the greatest number down, equal numbers left
  to right, a position lands among the first `k` exactly when fewer than `k` positions come before it: those with a
  greater number, and those further left with an equal one.
-/
module

public import Idealize.ShloMosaic.Lib.SortPrefix
public import Idealize.ShloMosaic.Lib.SortFacts
public import Mathlib.Order.Interval.Finset.Fin

@[expose] public section

namespace Cert.KernelIdeal.Rank

open Idealize.ShloMosaic

variable {α : Type} [LinearOrder α] {n : Nat}

/-- `a`'s number is greater than `b`'s. -/
def byKey (x : Fin n → α) (a b : Fin n) : Bool := decide (x b < x a)

/-- `a` comes before `b`: its number is greater, or equal and `a` is further left. -/
def before (x : Fin n → α) (a b : Fin n) : Bool :=
  decide (x b < x a) || (decide (x a = x b) && decide (a < b))

/-- Inserting a position that is left of every position of the list needs only the numbers. -/
theorem insert_eq (x : Fin n → α) (a : Fin n) (m : List (Fin n)) (h : ∀ b ∈ m, a < b) :
    insertBefore (byKey x) a m = insertBefore (before x) a m := by
  refine insertBefore_congr _ _ a m fun b hb => ?_
  have hn : ¬ b < a := not_lt.mpr (h b hb).le
  simp [byKey, before, hn]

/-- A stable sort by the numbers of positions listed left to right is the sort by `before`. -/
theorem stableSort_eq (x : Fin n → α) (l : List (Fin n)) (h : l.Pairwise (· < ·)) :
    stableSort (byKey x) l = stableSort (before x) l := by
  induction l with
  | nil => rfl
  | cons a l ih =>
      rw [List.pairwise_cons] at h
      unfold stableSort
      rw [ih h.2]
      exact insert_eq x a _ fun b hb => h.1 b ((perm_stableSort _ l).mem_iff.mp hb)

/-- So the sort of all positions by the numbers is their sort by `before`. -/
theorem sortedFrom_eq (x : Fin n → α) : sortedFrom (byKey x) = sortedFrom (before x) := by
  funext k
  unfold sortedFrom sortPositions
  have h := stableSort_eq x (List.finRange n) (List.pairwise_lt_finRange n)
  rw [List.get_of_eq h]
  rfl

/-- `before` orders any two positions one way. -/
theorem strict (x : Fin n → α) : StrictTotalBefore (before x) := by
  refine ⟨fun a => ?_, fun a b c hab hbc => ?_, fun a b hne => ?_⟩
  · simp [before]
  · simp only [before, Bool.or_eq_true, Bool.and_eq_true, decide_eq_true_eq] at hab hbc ⊢
    rcases hab with h | ⟨h, h'⟩ <;> rcases hbc with g | ⟨g, g'⟩
    · exact Or.inl (g.trans h)
    · exact Or.inl (g ▸ h)
    · exact Or.inl (h ▸ g)
    · exact Or.inr ⟨h.trans g, h'.trans g'⟩
  · simp only [before, Bool.or_eq_true, Bool.and_eq_true, decide_eq_true_eq]
    rcases lt_trichotomy (x a) (x b) with h | h | h
    · exact Or.inr (Or.inl h)
    · rcases lt_or_gt_of_ne hne with g | g
      · exact Or.inl (Or.inr ⟨h, g⟩)
      · exact Or.inr (Or.inr ⟨h.symm, g⟩)
    · exact Or.inl (Or.inl h)

/-- The positions in sorted order, each before the later ones. -/
theorem sorted_lt (x : Fin n → α) (i j : Fin n) (h : i < j) :
    before x (sortedFrom (before x) i) (sortedFrom (before x) j) = true := by
  have hs := strict x
  have hno := sortedFrom_noInversion (before x) (before x) (fun a b h => hs.asymm a b h) (fun _ _ h => h) hs.negTrans i j h
  rcases hs.total (sortedFrom (before x) i) (sortedFrom (before x) j)
    (fun e => h.ne (sortedFrom_injective _ e)) with g | g
  · exact g
  · rw [hno] at g; exact absurd g (by decide)

/-- The place of a position is the number of positions before it. -/
theorem card_before (x : Fin n → α) (k : Fin n) :
    (Finset.univ.filter fun p => before x p (sortedFrom (before x) k) = true).card = k.val := by
  have hs := strict x
  have e : (Finset.univ.filter fun p => before x p (sortedFrom (before x) k) = true)
      = (Finset.Iio k).map ⟨sortedFrom (before x), sortedFrom_injective _⟩ := by
    ext p
    simp only [Finset.mem_filter, Finset.mem_univ, true_and, Finset.mem_map, Finset.mem_Iio, Function.Embedding.coeFn_mk]
    constructor
    · intro hp
      obtain ⟨i, rfl⟩ := sortedFrom_surjective (before x) p
      refine ⟨i, ?_, rfl⟩
      rcases lt_trichotomy i k with g | g | g
      · exact g
      · subst g; rw [hs.irrefl] at hp; exact absurd hp (by decide)
      · have := hs.asymm _ _ (sorted_lt x k i g); rw [this] at hp; exact absurd hp (by decide)
    · rintro ⟨i, hi, rfl⟩
      exact sorted_lt x i k hi
  rw [e, Finset.card_map, Fin.card_Iio]

/-- A position is among the first `k` sorted exactly when fewer than `k` positions come before it. -/
theorem mem_first (x : Fin n → α) (k : Nat) (l : Fin n) :
    (∃ i : Fin n, i.val < k ∧ sortedFrom (byKey x) i = l)
      ↔ (Finset.univ.filter fun p => x l < x p).card + (Finset.univ.filter fun p => x p = x l ∧ p < l).card < k := by
  rw [sortedFrom_eq]
  have hsplit : (Finset.univ.filter fun p => x l < x p).card + (Finset.univ.filter fun p => x p = x l ∧ p < l).card
      = (Finset.univ.filter fun p => before x p l = true).card := by
    rw [← Finset.card_union_of_disjoint]
    · congr 1
      ext p
      simp [before]
    · rw [Finset.disjoint_filter]
      rintro p - h ⟨h', -⟩
      exact absurd h' h.ne'
  rw [hsplit]
  constructor
  · rintro ⟨i, hi, rfl⟩
    rw [card_before]; exact hi
  · intro h
    obtain ⟨i, rfl⟩ := sortedFrom_surjective (before x) l
    rw [card_before] at h
    exact ⟨i, h, rfl⟩

end Cert.KernelIdeal.Rank

end
-- ==== Proof.Value.lean ====
/-
  The two programs' results over the extended reals. Each is a number of hits times a constant: the kernel's 128 equal
  places per tile make its sum 128 times the number of rows that are hits, and its constant is the reference's over 128.
-/
module

public import proofs.«01_k».proof.Proof.Fetch
public import proofs.«01_k».proof.Proof.Rank
public import proofs.«01_k».proof.Proof.Gen.ReferenceIdeal.Run
public import Idealize.ShloMosaic.PureOps.Ideal.Laws
public import Idealize.ShloMosaic.Lib.ValueIdxCore

@[expose] public section

noncomputable section

open scoped BigOperators

namespace Cert.KernelIdeal.Value

open Cert.KernelIdeal Cert.KernelIdeal.Gen Cert.KernelIdeal.Count Cert.KernelIdeal.Fetch
open Idealize.ShloMosaic

variable (P : S128x32768.Idx → EReal) (Lb : S128.Idx → BitVec 32)

/-- A whole number as an extended real is that number as a real. -/
theorem natCast_eq (n : Nat) : ((n : ℝ) : EReal) = (n : EReal) := EReal.coe_natCast

/-- The extended real zero. -/
theorem ofBits_zero : (FloatOps.ofBits .f32 0x00000000#32 : Ideal .f32) = 0 := Ideal.ofBits_zero_f32

/-! ## When a row is a hit -/

/-- The numbers of row `r`, by column. -/
def row (r : Fin 128) (j : Fin 32768) : EReal := P (ValueIdx.ix2 r j)

/-- The place of a row and a column, each in range. -/
theorem at2_eq (r : Fin 128) (j : Fin 32768) : at2 r.val j.val = ValueIdx.ix2 r j := by
  funext a
  match a with
  | ⟨0, _⟩ => exact Fin.ext (Nat.mod_eq_of_lt r.isLt)
  | ⟨1, _⟩ => exact Fin.ext (Nat.mod_eq_of_lt j.isLt)

/-- A row read by numbers is the row read by columns. -/
theorem rowOf_eq (r : Fin 128) (j : Fin 32768) : rowOf (F := Ideal) P r.val j.val = row P r j :=
  congrArg P (at2_eq r j)

/-- The label of row `r` as a column, when it is one. -/
def label (h : ∀ j, (Lb j).toNat < 32768) (r : Fin 128) : Fin 32768 := ⟨(labOf Lb r.val).toNat, h _⟩

/-- One when row `r` is a hit, else zero. -/
def hitNum (r : Nat) : Nat := if rank (rowOf (F := Ideal) P r) (valOf (F := Ideal) P Lb r) (labOf Lb r).toNat < 5 then 1 else 0

/-- A row is at most one hit. -/
theorem hitNum_le (r : Nat) : hitNum P Lb r ≤ 1 := by unfold hitNum; split <;> omega

/-- The word the kernel adds for a row. -/
theorem hitOf_eq (r : Nat) : hitOf (F := Ideal) P Lb r = BitVec.ofNat 32 (hitNum P Lb r) := by
  unfold hitOf hit hitNum; split <;> rfl

/-- A count of columns below `n` is the size of a set of columns. -/
theorem cnt_card (p : Nat → BitVec 1) (n : Nat) (hn : n ≤ 32768) :
    cnt p n = (Finset.univ.filter fun i : Fin 32768 => p i.val = 1#1 ∧ i.val < n).card := by
  unfold cnt
  rw [Nat.count_eq_card_filter_range]
  refine Finset.card_bij' (fun i hi => ⟨i, ?_⟩) (fun i _ => i.val) ?_ ?_ ?_ ?_
  · have := Finset.mem_range.mp (Finset.mem_filter.mp hi).1; omega
  · intro i hi
    rw [Finset.mem_filter, Finset.mem_range] at hi
    exact Finset.mem_filter.mpr ⟨Finset.mem_univ _, hi.2, hi.1⟩
  · intro i hi
    have := (Finset.mem_filter.mp hi).2
    exact Finset.mem_filter.mpr ⟨Finset.mem_range.mpr this.2, this.1⟩
  · intro i hi; rfl
  · intro i hi; rfl

/-- A bit made of a decided statement is one when the statement holds. -/
theorem ofBool_one (b : Prop) [Decidable b] : BitVec.ofBool (decide b) = 1#1 ↔ b := by
  by_cases h : b <;> simp [h]

/-- The rank of the label's column in its row, in the words of the sort. -/
theorem rank_eq (h : ∀ j, (Lb j).toNat < 32768) (r : Fin 128) :
    rank (rowOf (F := Ideal) P r.val) (valOf (F := Ideal) P Lb r.val) (labOf Lb r.val).toNat
      = (Finset.univ.filter fun p => row P r (label Lb h r) < row P r p).card
        + (Finset.univ.filter fun p => row P r p = row P r (label Lb h r) ∧ p < label Lb h r).card := by
  have hv : valOf (F := Ideal) P Lb r.val = row P r (label Lb h r) := by
    unfold valOf
    rw [ofBits_zero, ← rowOf_eq]
    exact zero_add _
  have hl : (labOf Lb r.val).toNat < 32768 := h _
  unfold rank
  rw [hv, cnt_card _ _ le_rfl, cnt_card _ _ hl.le]
  refine congrArg₂ (· + ·) (congrArg Finset.card (Finset.filter_congr fun p _ => ?_))
    (congrArg Finset.card (Finset.filter_congr fun p _ => ?_))
  · have e := rowOf_eq P r p
    show BitVec.ofBool (decide (_ < rowOf (F := Ideal) P r.val p.val)) = 1#1 ∧ _ ↔ _
    rw [ofBool_one, e]
    exact and_iff_left p.isLt
  · have e := rowOf_eq P r p
    show BitVec.ofBool (decide (rowOf (F := Ideal) P r.val p.val = _)) = 1#1 ∧ _ ↔ _
    rw [ofBool_one, e]
    rfl

/-- A row is a hit exactly when the label's column is among the first five of the sorted row. -/
theorem hitNum_eq (h : ∀ j, (Lb j).toNat < 32768) (r : Fin 128) :
    hitNum P Lb r.val
      = if ∃ i : Fin 32768, i.val < 5 ∧ sortedFrom (Rank.byKey (row P r)) i = label Lb h r then 1 else 0 := by
  unfold hitNum
  rw [rank_eq P Lb h r]
  exact if_congr (Rank.mem_first _ 5 _).symm rfl rfl

/-! ## The kernel's sum -/

/-- The hits of a tile's four rows. -/
def tileNum (w : Nat) : Nat := hitNum P Lb (4 * w) + hitNum P Lb (4 * w + 1) + hitNum P Lb (4 * w + 2) + hitNum P Lb (4 * w + 3)

/-- The word a tile adds up is its number of hits. -/
theorem sum4_eq (w : Nat) : sum4 (F := Ideal) P Lb w = BitVec.ofNat 32 (tileNum P Lb w) := by
  unfold sum4 tileNum Scalar.addi IntOp.addi
  rw [hitOf_eq, hitOf_eq, hitOf_eq, hitOf_eq, BitVec.zero_add, ← BitVec.ofNat_add, ← BitVec.ofNat_add, ← BitVec.ofNat_add]

/-- What a tile writes in each place: its number of hits. -/
theorem resOf_eq (w : Nat) : resOf (F := Ideal) P Lb w = ((tileNum P Lb w : ℕ) : EReal) := by
  have h0 := hitNum_le P Lb (4 * w)
  have h1 := hitNum_le P Lb (4 * w + 1)
  have h2 := hitNum_le P Lb (4 * w + 2)
  have h3 := hitNum_le P Lb (4 * w + 3)
  have ht : tileNum P Lb w < 2 ^ 31 := by unfold tileNum; omega
  unfold resOf
  rw [ofBits_zero, sum4_eq]
  show (0 : EReal) + (((BitVec.ofNat 32 (tileNum P Lb w)).toInt : ℝ) : EReal) = _
  rw [zero_add, WordArith.toInt_ofNat_small _ ht, ← natCast_eq]
  exact congrArg _ (Int.cast_natCast _)

/-- Adding up by fours. -/
theorem sum_fours (f : Nat → Nat) (n : Nat) :
    ∑ w ∈ Finset.range n, (f (4 * w) + f (4 * w + 1) + f (4 * w + 2) + f (4 * w + 3)) = ∑ r ∈ Finset.range (4 * n), f r := by
  induction n with
  | zero => rfl
  | succ n ih =>
      rw [Finset.sum_range_succ, ih, show 4 * (n + 1) = 4 * n + 1 + 1 + 1 + 1 from by omega,
        Finset.sum_range_succ, Finset.sum_range_succ, Finset.sum_range_succ, Finset.sum_range_succ]
      omega

/-- The number of rows that are hits. -/
def hits : Nat := ∑ r : Fin 128, hitNum P Lb r.val

/-- The tiles' numbers add up to the number of rows that are hits. -/
theorem sum_tiles : ∑ w : Fin 32, tileNum P Lb w.val = hits P Lb := by
  unfold hits
  rw [Fin.sum_univ_eq_sum_range (fun w => tileNum P Lb w) 32, Fin.sum_univ_eq_sum_range (fun r => hitNum P Lb r) 128]
  exact sum_fours (hitNum P Lb) 32

/-- The kernel's result: the hits counted 128 times, times its constant. -/
theorem kernel_value (f : Vec Ideal S32x128 .f32) (hf : f = fun i : S32x128.Idx => resOf (F := Ideal) P Lb (i 0).val) :
    k1_pay1 (F := Ideal) f = ((128 * hits P Lb : ℕ) : EReal) * Ideal.ofBits .f32 0x3BC80000#32 := by
  have hs : ∑ i : S32x128.Idx, f i = ((128 * hits P Lb : ℕ) : EReal) := by
    subst hf
    rw [ValueIdx.sum_idx2]
    rw [← sum_tiles, Finset.mul_sum, Nat.cast_sum]
    refine Finset.sum_congr rfl fun w _ => ?_
    show ∑ _b : Fin 128, resOf (F := Ideal) P Lb w.val = _
    rw [resOf_eq, ← Nat.cast_sum]
    simp
  unfold k1_pay1
  refine congrArg (· * Ideal.ofBits .f32 0x3BC80000#32) ((Ideal.multiReduction_add_total _ 0x00000000#32 _ (fun b => ?_) (.inl rfl) rfl _).trans ?_)
  · fin_cases b; rfl
  have : ∑ i : S1x32x128.Idx, shapeCast S1x32x128 f shapeCasts_S32x128_S1x32x128 i = ∑ i : S32x128.Idx, f i :=
    Equiv.sum_comp (Shape.reshapeEquiv (s := S32x128) (s' := S1x32x128) shapeCasts_S32x128_S1x32x128) f
  exact this.trans hs

/-! ## The reference's sum -/

/-- Exactly one of the first five positions holds a column that is among them, none holds another. -/
theorem sum_first (x : Fin 32768 → EReal) (l : Fin 32768) :
    ∑ k : Fin 5, (if sortedFrom (Rank.byKey x) (k.castLE (by decide)) = l then 1 else 0)
      = if ∃ i : Fin 32768, i.val < 5 ∧ sortedFrom (Rank.byKey x) i = l then 1 else 0 := by
  by_cases h : ∃ i : Fin 32768, i.val < 5 ∧ sortedFrom (Rank.byKey x) i = l
  · rw [if_pos h]
    obtain ⟨i, hi, rfl⟩ := h
    rw [Finset.sum_eq_single (⟨i.val, hi⟩ : Fin 5)]
    · exact if_pos rfl
    · intro k _ hk
      refine if_neg fun e => hk ?_
      have := congrArg Fin.val (sortedFrom_injective _ e)
      exact Fin.ext this
    · intro hn; exact absurd (Finset.mem_univ _) hn
  · rw [if_neg h]
    refine Finset.sum_eq_zero fun k _ => if_neg fun e => h ⟨_, k.isLt, e⟩

/-- The reference's comparator orders a row's columns by their numbers. -/
theorem before_eq (r : Fin 128) (x : Fin 32768 → EReal) :
    (fun k k' => (FloatOps.cmpfTotal (F := Ideal) (φ := .f32) .gt (x k) (x k') : BitVec 1) == 1#1) = Rank.byKey x := by
  funext k k'
  show (BitVec.ofBool (decide (x k' < x k)) == 1#1) = decide (x k' < x k)
  cases decide (x k' < x k) <;> rfl

/-- A place of row `r` with another column. -/
theorem along_eq (r : Fin 128) (k a : Fin 32768) : Shape.Idx.along (s := S128x32768) (ValueIdx.ix2 r k) 1 a = ValueIdx.ix2 r a := by
  funext b
  match b with
  | ⟨0, _⟩ => rfl
  | ⟨1, _⟩ => rfl

/-- A stable sort of the rows carrying column numbers, at place `k` of row `r`: the number of the column the sorting
    order of the row puts there. -/
theorem sort2_at (idx : IVec S128x32768 32) (J : S128x32768.Idx) (r : Fin 128) (k : Fin 32768) (hJ : J = ValueIdx.ix2 r k) :
    (Host.sort2 S128x32768 1 (fun l r => FloatOps.cmpfTotal (F := Ideal) (φ := .f32) .gt l.1 r.1) P idx).2 J
      = idx (ValueIdx.ix2 r (sortedFrom (Rank.byKey (row P r)) k)) := by
  subst hJ
  have hx : ∀ a, P (Shape.Idx.along (s := S128x32768) (ValueIdx.ix2 r k) 1 a) = row P r a := fun a => congrArg P (along_eq r k a)
  have hs : (fun a b => (FloatOps.cmpfTotal (F := Ideal) (φ := .f32) .gt (P (Shape.Idx.along (s := S128x32768) (ValueIdx.ix2 r k) 1 a))
      (P (Shape.Idx.along (s := S128x32768) (ValueIdx.ix2 r k) 1 b)) : BitVec 1) == 1#1) = Rank.byKey (row P r) := by
    rw [← before_eq r]
    funext a b
    rw [hx, hx]
  refine congrArg idx ((along_eq r k _).trans ?_)
  exact congrArg (fun f => ValueIdx.ix2 (n1 := 32768) r (sortedFrom f k)) hs

/-- The `k`-th index the reference takes from row `r`: the column at place `k` of the sorted row. -/
theorem topK_at (r : Fin 128) (k : Fin 5) :
    (Host.topK ReferenceIdeal.S128x5 1 (FloatOps.cmpfTotal (F := Ideal) (φ := .f32) .gt) P ReferenceIdeal.Gen.sliceFits_S128x32768_S128x5).2 (ValueIdx.ix2 r k)
      = BitVec.ofNat 32 (sortedFrom (Rank.byKey (row P r)) (k.castLE (by decide))).val := by
  unfold Host.topK extractStridedSlice
  dsimp only
  rw [sort2_at P _ _ r (k.castLE (by decide))]
  · rfl
  funext b
  match b with
  | ⟨0, _⟩ => exact Fin.ext (Nat.zero_add _)
  | ⟨1, _⟩ => exact Fin.ext (Nat.zero_add _)

/-- A column's number as a word is the label exactly when the column is the label's. -/
theorem bit_eq (h : ∀ j, (Lb j).toNat < 32768) (r : Fin 128) (c : Fin 32768) :
    (IntOp.cmpi .eq (BitVec.ofNat 32 c.val) (labOf Lb r.val)).toNat = if c = label Lb h r then 1 else 0 := by
  have e : (BitVec.ofNat 32 c.val = labOf Lb r.val) ↔ c = label Lb h r := by
    rw [← BitVec.toNat_inj, BitVec.toNat_ofNat, Nat.mod_eq_of_lt (by omega), Fin.ext_iff]
    rfl
  show (BitVec.ofBool (BitVec.ofNat 32 c.val == labOf Lb r.val)).toNat = _
  by_cases g : c = label Lb h r
  · rw [if_pos g, beq_iff_eq.mpr (e.mpr g)]; rfl
  · rw [if_neg g, beq_eq_false_iff_ne.mpr fun x => g (e.mp x)]; rfl

/-- The reference's result: the hits, times its constant. -/
theorem reference_value (h : ∀ j, (Lb j).toNat < 32768) (i : Cert.ReferenceIdeal.S1.Idx) :
    (mulf (broadcastInDim ReferenceIdeal.S1 ![] ReferenceIdeal.Gen.bcast_S_S1 (Host.reduceAdd (uitofp .f32 (shapeCast _ (cmpi .eq (transpose ReferenceIdeal.S5x128 [1, 0] ((Host.topK ReferenceIdeal.S128x5 1 (FloatOps.cmpfTotal (F := Ideal) (φ := .f32) .gt) P ReferenceIdeal.Gen.sliceFits_S128x32768_S128x5).2) ReferenceIdeal.Gen.transposes_S128x5_S5x128_1_0) (broadcastInDim ReferenceIdeal.S5x128 ![0, 1] ReferenceIdeal.Gen.bcast_S1x128_S5x128_0_1 (broadcastInDim ReferenceIdeal.S1x128 ![1] ReferenceIdeal.Gen.bcast_S128_S1x128_1 Lb))) ReferenceIdeal.Gen.shapeCasts_S5x128_S640)) (constant ReferenceIdeal.S_ .f32 0x00000000#32) ReferenceIdeal.Gen.reducesTo_S640_S_d0 ReferenceIdeal.Gen.h_S_)) (broadcastInDim ReferenceIdeal.S1 ![] ReferenceIdeal.Gen.bcast_S_S1 (constant ReferenceIdeal.S_ .f32 0x3F480000#32)) : FVec Ideal ReferenceIdeal.S1 .f32) i
      = ((hits P Lb : ℕ) : EReal) * Ideal.ofBits .f32 0x3F480000#32 := by
  refine congrArg (· * Ideal.ofBits .f32 0x3F480000#32) ((Ideal.hostReduceAdd_total _ (fun b => b.elim0) _ _ _).trans ?_)
  rw [show (constant (F := Ideal) ReferenceIdeal.S_ .f32 0x00000000#32 (Shape.Idx.first ReferenceIdeal.Gen.h_S_) : EReal) = 0 from ofBits_zero, zero_add]
  refine (Equiv.sum_comp (Shape.reshapeEquiv (s := ReferenceIdeal.S5x128) (s' := ReferenceIdeal.S640) ReferenceIdeal.Gen.shapeCasts_S5x128_S640)
    (uitofp (F := Ideal) .f32 (cmpi .eq _ _) : ReferenceIdeal.S5x128.Idx → EReal)).trans ?_
  rw [ValueIdx.sum_idx2, Finset.sum_comm]
  unfold hits
  rw [Nat.cast_sum]
  refine Finset.sum_congr rfl fun r _ => ?_
  rw [hitNum_eq P Lb h r, ← sum_first, Nat.cast_sum]
  refine Finset.sum_congr rfl fun k _ => ?_
  have ht : transpose ReferenceIdeal.S5x128 [1, 0] ((Host.topK ReferenceIdeal.S128x5 1 (FloatOps.cmpfTotal (F := Ideal) (φ := .f32) .gt) P ReferenceIdeal.Gen.sliceFits_S128x32768_S128x5).2) ReferenceIdeal.Gen.transposes_S128x5_S5x128_1_0 (ValueIdx.ix2 k r)
      = BitVec.ofNat 32 (sortedFrom (Rank.byKey (row P r)) (k.castLE (by decide))).val := by
    refine (congrArg (Host.topK ReferenceIdeal.S128x5 1 (FloatOps.cmpfTotal (F := Ideal) (φ := .f32) .gt) P ReferenceIdeal.Gen.sliceFits_S128x32768_S128x5).2 ?_).trans (topK_at P r k)
    funext b
    match b with
    | ⟨0, _⟩ => rfl
    | ⟨1, _⟩ => rfl
  have hb : broadcastInDim ReferenceIdeal.S5x128 ![0, 1] ReferenceIdeal.Gen.bcast_S1x128_S5x128_0_1 (broadcastInDim ReferenceIdeal.S1x128 ![1] ReferenceIdeal.Gen.bcast_S128_S1x128_1 Lb) (ValueIdx.ix2 k r) = labOf Lb r.val := by
    refine congrArg Lb (funext fun b => ?_)
    match b with
    | ⟨0, _⟩ => exact Fin.ext (Nat.mod_eq_of_lt r.isLt).symm
  rw [← bit_eq Lb h r, ← natCast_eq, ← ht, ← hb]
  rfl

/-- The kernel's constant as a power of two times a whole number. -/
theorem bits_kernel : Ideal.ofBits .f32 0x3BC80000#32 = (((2 ^ 23 + 4718592 : Nat) * (2 : ℝ) ^ ((119 : Int) - 127 - 23) : ℝ) : EReal) := by
  unfold Ideal.ofBits Ideal.ieee
  simp

/-- The reference's constant as a power of two times a whole number. -/
theorem bits_reference : Ideal.ofBits .f32 0x3F480000#32 = (((2 ^ 23 + 4718592 : Nat) * (2 : ℝ) ^ ((126 : Int) - 127 - 23) : ℝ) : EReal) := by
  unfold Ideal.ofBits Ideal.ieee
  simp

/-- The kernel's constant is the reference's over 128. -/
theorem consts (n : Nat) :
    ((128 * n : ℕ) : EReal) * Ideal.ofBits .f32 0x3BC80000#32 = ((n : ℕ) : EReal) * Ideal.ofBits .f32 0x3F480000#32 := by
  rw [bits_kernel, bits_reference, ← natCast_eq, ← natCast_eq, ← EReal.coe_mul, ← EReal.coe_mul]
  have e : (2 : ℝ) ^ ((126 : Int) - 127 - 23) = 2 ^ (7 : ℕ) * (2 : ℝ) ^ ((119 : Int) - 127 - 23) := by
    rw [← zpow_natCast, ← zpow_add₀ two_ne_zero]; rfl
  have e' : (2 : ℝ) ^ (7 : ℕ) = ((128 : ℕ) : ℝ) := by
    rw [← Nat.cast_ofNat, ← Nat.cast_pow]; rfl
  rw [e, e', Nat.cast_mul]
  congr 1
  generalize ((2 ^ 23 + 4718592 : ℕ) : ℝ) = a
  generalize (2 : ℝ) ^ ((119 : Int) - 127 - 23) = b
  rw [mul_comm ((128 : ℕ) : ℝ), mul_assoc, mul_left_comm ((128 : ℕ) : ℝ)]

end Cert.KernelIdeal.Value

end
-- ==== Proof.Algebraic.lean ====
/-
  The kernel and the reference, run from the same arguments over the extended reals, end with the same result.
-/
module

public import proofs.«01_k».proof.Proof.Frames
public import proofs.«01_k».proof.Proof.Value

@[expose] public section

noncomputable section

namespace Cert.Algebraic

open Cert.KernelIdeal.Tile Cert.KernelIdeal.Launch Cert.KernelIdeal.Whole
open Idealize.ShloMosaic Idealize.ShloMosaic.TcCoe Idealize.SL.Sem

/-- The kernel's result, written out. -/
theorem out_eq (m : (ℓ : Loc Cert.KernelIdeal.nD Cert.KernelIdeal.τ Cert.KernelIdeal.sig) → Buf (Elt Ideal) ℓ)
    (c : Dev Cert.KernelIdeal.nD) (i : Cert.KernelIdeal.S1.Idx) :
    out (F := Ideal) m c i
      = ((KernelIdeal.Value.hits (m (pLoc c)) (m (lLoc c)) : ℕ) : EReal) * Ideal.ofBits .f32 0x3F480000#32 :=
  (KernelIdeal.Value.kernel_value (m (pLoc c)) (m (lLoc c)) (outBuf m c) rfl).trans (KernelIdeal.Value.consts _)

/-- From equal arguments, the kernel's labels in range, both programs end with equal results. -/
theorem algebraic : Cert.algebraic_KernelIdeal_ReferenceIdeal := fun m g m' g' hpre hargs =>
  ⟨fun c => out (F := Ideal) m c,
    (θ_run Cert.KernelIdeal.defs _ _).mono (fun _ h c => ⟨(h.1 c).2.2, (h.1 c).1, (h.1 c).2.1⟩)
      (run_main (F := Ideal) m g (Cert.Frames.ok_ideal m hpre)),
    (θ_run Cert.ReferenceIdeal.defs _ _).mono (fun _ h c => ⟨(h c).1.trans (by
        rw [(hargs c).1, (hargs c).2]
        funext i
        exact (KernelIdeal.Value.reference_value (m (pLoc c)) (m (lLoc c)) (Cert.Frames.ok_ideal m hpre c) i).trans
          (out_eq m c i).symm), (h c).2⟩)
      (Cert.ReferenceIdeal.Value.run (F := Ideal) m' g')⟩

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import proofs.«01_k».proof.Proof.Gen.Pre_labels_in_range
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Pre_labels_in_range.Gen.facts,
  Cert.Frames.frame_kernel, Cert.Frames.frame_ideal, Cert.Frames.frame_reference,
  fun m ρ _ => Cert.Frames.frame_reference m ρ trivial, trivial, Cert.Algebraic.algebraic⟩

end Cert.Proof

end
